-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_infinite_element [hPre_no_infinite_element : Cert.Pre_no_infinite_element.Facts] (m : (ℓ : Loc Cert.KernelIdeal.nD Cert.KernelIdeal.τ Cert.KernelIdeal.sig) → Buf (Elt Ideal) ℓ) : Prop :=
  ∀ c : Dev Cert.KernelIdeal.nD,
    (Cert.Pre_no_infinite_element.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_infinite_element [hPre_no_infinite_element : Cert.Pre_no_infinite_element.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_infinite_element.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_infinite_element [hKernelIdeal : Cert.KernelIdeal.Facts] [hPre_no_infinite_element : Cert.Pre_no_infinite_element.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_infinite_element m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_infinite_element [hReferenceIdeal : Cert.ReferenceIdeal.Facts] [hPre_no_infinite_element : Cert.Pre_no_infinite_element.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_infinite_element m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_infinite_element [hKernelIdeal : Cert.KernelIdeal.Facts] [hReferenceIdeal : Cert.ReferenceIdeal.Facts] [hPre_no_infinite_element : Cert.Pre_no_infinite_element.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_infinite_element m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_infinite_element : Cert.Pre_no_infinite_element.Facts),
    quiescent_Kernel (hKernel := hKernel)
    ∧ quiescent_KernelIdeal (hKernelIdeal := hKernelIdeal)
    ∧ quiescent_KernelIdeal_pre_no_infinite_element (hKernelIdeal := hKernelIdeal) (hPre_no_infinite_element := hPre_no_infinite_element)
    ∧ quiescent_ReferenceIdeal (hReferenceIdeal := hReferenceIdeal)
    ∧ quiescent_ReferenceIdeal_pre_no_infinite_element (hReferenceIdeal := hReferenceIdeal) (hPre_no_infinite_element := hPre_no_infinite_element)
    ∧ preserves_Kernel_KernelIdeal
    ∧ algebraic_KernelIdeal_ReferenceIdeal_pre_no_infinite_element (hKernelIdeal := hKernelIdeal) (hReferenceIdeal := hReferenceIdeal) (hPre_no_infinite_element := hPre_no_infinite_element)
-- ==== Pre_no_infinite_element.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn {F : FTy → Type} [FloatOps F] (main_arg0 : FVec F S16x64x128x128 .f32) : IVec S_ 1 :=
  let main_cst : FVec F S_ .f32 := constant S_ .f32 0x7F800000#32
  let main_v0 : FVec F S16x64x128x128 .f32 := broadcastInDim S16x64x128x128 ![] bcast_S_S16x64x128x128 main_cst
  let main_v1 : IVec S16x64x128x128 1 := cmpf .olt main_arg0 main_v0
  let main_c : IVec S_ 1 := constantI S_ 1 1#1
  let main_v2 : IVec S_ 1 := (fun x v => Host.reduce IntOp.andi x v reducesTo_S16x64x128x128_S_d0_1_2_3 h_S_) main_v1 main_c
  main_v2
-- ==== Kernel.lean ====
abbrev S16x64x128x128 : Shape := ⟨4, ![16, 64, 128, 128]⟩
abbrev S1024x128x128 : Shape := ⟨3, ![1024, 128, 128]⟩
abbrev S1024x126x126 : Shape := ⟨3, ![1024, 126, 126]⟩
abbrev S1x128x128 : Shape := ⟨3, ![1, 128, 128]⟩
abbrev S1x126x126 : Shape := ⟨3, ![1, 126, 126]⟩
abbrev S128x128 : Shape := ⟨2, ![128, 128]⟩
abbrev S126x126 : Shape := ⟨2, ![126, 126]⟩

abbrev nBuf : Space → Nat
  | .hbm => 3
  | .vmem => 4
  | .smem => 0
  | _ => 0

abbrev bufTy : (tb : Table) → Fin (tcTables nBuf tb) → BufTy
  | .hbm, ⟨0, _⟩ => ⟨S16x64x128x128, .f32⟩
  | .hbm, ⟨1, _⟩ => ⟨S1024x128x128, .f32⟩
  | .hbm, ⟨2, _⟩ => ⟨S1024x126x126, .f32⟩
  | .local _ .vmem, ⟨0, _⟩ => ⟨S1x128x128, .f32⟩
  | .local _ .vmem, ⟨1, _⟩ => ⟨S1x128x128, .f32⟩
  | .local _ .vmem, ⟨2, _⟩ => ⟨S1x126x126, .f32⟩
  | .local _ .vmem, ⟨3, _⟩ => ⟨S1x126x126, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x126x126 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x64x128x128 : Shape := ⟨4, ![16, 64, 128, 128]⟩
abbrev S16x64x126x126 : Shape := ⟨4, ![16, 64, 126, 126]⟩
abbrev S16x64x126x126x1 : Shape := ⟨5, ![16, 64, 126, 126, 1]⟩
abbrev S16x64x126x126x9 : Shape := ⟨5, ![16, 64, 126, 126, 9]⟩
abbrev S_ : Shape := ⟨0, ![]⟩
abbrev S1 : Shape := ⟨1, ![1]⟩
abbrev S2 : Shape := ⟨1, ![2]⟩
abbrev S1x1x1x1x1 : Shape := ⟨5, ![1, 1, 1, 1, 1]⟩
abbrev S16x64x126x126x1x1 : Shape := ⟨6, ![16, 64, 126, 126, 1, 1]⟩
abbrev S1x1x1x1x1x1 : Shape := ⟨6, ![1, 1, 1, 1, 1, 1]⟩
abbrev S1024x126x126 : Shape := ⟨3, ![1024, 126, 126]⟩

abbrev nBuf : Space → Nat
  | .hbm => 370
  | .vmem => 0
  | .smem => 0
  | _ => 0

abbrev hbmTy0_0 (i : Nat) : BufTy := match i % 128 with
  | 0 => ⟨S16x64x128x128, .f32⟩
  | 1 => ⟨S16x64x126x126, .f32⟩
  | 2 => ⟨S16x64x126x126, .f32⟩
  | 3 => ⟨S16x64x126x126, .f32⟩
  | 4 => ⟨S16x64x126x126, .f32⟩
  | 5 => ⟨S16x64x126x126, .f32⟩
  | 6 => ⟨S16x64x126x126, .f32⟩
  | 7 => ⟨S16x64x126x126, .f32⟩
  | 8 => ⟨S16x64x126x126, .f32⟩
  | 9 => ⟨S16x64x126x126, .f32⟩
  | 10 => ⟨S16x64x126x126x1, .f32⟩
  | 11 => ⟨S16x64x126x126x1, .f32⟩
  | 12 => ⟨S16x64x126x126x1, .f32⟩
  | 13 => ⟨S16x64x126x126x1, .f32⟩
  | 14 => ⟨S16x64x126x126x1, .f32⟩
  | 15 => ⟨S16x64x126x126x1, .f32⟩
  | 16 => ⟨S16x64x126x126x1, .f32⟩
  | 17 => ⟨S16x64x126x126x1, .f32⟩
  | 18 => ⟨S16x64x126x126x1, .f32⟩
  | 19 => ⟨S16x64x126x126x9, .f32⟩
  | 20 => ⟨S_, .f32⟩
  | 21 => ⟨S16x64x126x126x9, .f32⟩
  | 22 => ⟨S16x64x126x126x9, .f32⟩
  | 23 => ⟨S_, .f32⟩
  | 24 => ⟨S16x64x126x126, .f32⟩
  | 25 => ⟨S16x64x126x126x1, .f32⟩
  | 26 => ⟨S16x64x126x126x9, .f32⟩
  | 27 => ⟨S16x64x126x126x9, .f32⟩
  | 28 => ⟨S_, .f32⟩
  | 29 => ⟨S16x64x126x126x1, .f32⟩
  | 30 => ⟨S16x64x126x126x1, .i1⟩
  | 31 => ⟨S_, .f32⟩
  | 32 => ⟨S_, .f32⟩
  | 33 => ⟨S16x64x126x126x9, .i1⟩
  | 34 => ⟨S16x64x126x126x9, .f32⟩
  | 35 => ⟨S16x64x126x126x9, .f32⟩
  | 36 => ⟨S16x64x126x126x9, .f32⟩
  | 37 => ⟨S_, .i32⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S1, .i32⟩
  | 46 => ⟨S2, .i32⟩
  | 47 => ⟨S_, .f32⟩
  | 48 => ⟨S_, .f32⟩
  | 49 => ⟨S_, .f32⟩
  | 50 => ⟨S_, .f32⟩
  | 51 => ⟨S1x1x1x1x1, .f32⟩
  | 52 => ⟨S1x1x1x1x1, .f32⟩
  | 53 => ⟨S1, .i32⟩
  | 54 => ⟨S_, .i32⟩
  | 55 => ⟨S1, .i32⟩
  | 56 => ⟨S_, .i32⟩
  | 57 => ⟨S16x64x126x126x9, .i64⟩
  | 58 => ⟨S16x64x126x126x9, .i64⟩
  | 59 => ⟨S16x64x126x126x9, .i64⟩
  | 60 => ⟨S16x64x126x126x9, .i64⟩
  | 61 => ⟨S16x64x126x126x9, .i64⟩
  | 62 => ⟨S_, .i64⟩
  | 63 => ⟨S16x64x126x126x9, .i64⟩
  | 64 => ⟨S16x64x126x126x9, .i64⟩
  | 65 => ⟨S_, .i64⟩
  | 66 => ⟨S16x64x126x126x9, .i64⟩
  | 67 => ⟨S16x64x126x126x9, .i64⟩
  | 68 => ⟨S_, .i64⟩
  | 69 => ⟨S16x64x126x126x9, .i64⟩
  | 70 => ⟨S16x64x126x126x9, .i64⟩
  | 71 => ⟨S_, .i64⟩
  | 72 => ⟨S16x64x126x126x9, .i64⟩
  | 73 => ⟨S16x64x126x126x9, .i64⟩
  | 74 => ⟨S_, .i64⟩
  | 75 => ⟨S16x64x126x126x9, .i64⟩
  | 76 => ⟨S16x64x126x126x9, .i64⟩
  | 77 => ⟨S16x64x126x126x9, .i64⟩
  | 78 => ⟨S16x64x126x126x9, .i64⟩
  | 79 => ⟨S16x64x126x126x9, .i64⟩
  | 80 => ⟨S16x64x126x126x9, .i64⟩
  | 81 => ⟨S_, .i64⟩
  | 82 => ⟨S16x64x126x126x9, .i64⟩
  | 83 => ⟨S16x64x126x126x9, .i64⟩
  | 84 => ⟨S16x64x126x126x9, .i32⟩
  | 85 => ⟨S16x64x126x126x9, .i32⟩
  | 86 => ⟨S_, .i32⟩
  | 87 => ⟨S_, .i32⟩
  | 88 => ⟨S_, .i32⟩
  | 89 => ⟨S16x64x126x126x9, .i32⟩
  | 90 => ⟨S16x64x126x126x9, .i32⟩
  | 91 => ⟨S16x64x126x126x9, .i32⟩
  | 92 => ⟨S16x64x126x126x9, .i32⟩
  | 93 => ⟨S16x64x126x126x9, .i32⟩
  | 94 => ⟨S_, .i32⟩
  | 95 => ⟨S16x64x126x126x9, .i32⟩
  | 96 => ⟨S16x64x126x126x9, .i32⟩
  | 97 => ⟨S_, .i32⟩
  | 98 => ⟨S16x64x126x126x9, .i32⟩
  | 99 => ⟨S16x64x126x126x9, .i32⟩
  | 100 => ⟨S16x64x126x126x9, .i32⟩
  | 101 => ⟨S16x64x126x126x9, .i32⟩
  | 102 => ⟨S16x64x126x126x9, .i32⟩
  | 103 => ⟨S_, .i32⟩
  | 104 => ⟨S16x64x126x126x9, .i32⟩
  | 105 => ⟨S16x64x126x126x9, .i32⟩
  | 106 => ⟨S_, .i32⟩
  | 107 => ⟨S16x64x126x126x9, .i32⟩
  | 108 => ⟨S16x64x126x126x9, .i32⟩
  | 109 => ⟨S16x64x126x126x9, .i32⟩
  | 110 => ⟨S16x64x126x126x9, .i32⟩
  | 111 => ⟨S16x64x126x126x9, .i32⟩
  | 112 => ⟨S_, .i32⟩
  | 113 => ⟨S16x64x126x126x9, .i32⟩
  | 114 => ⟨S16x64x126x126x9, .i32⟩
  | 115 => ⟨S_, .i32⟩
  | 116 => ⟨S16x64x126x126x9, .i32⟩
  | 117 => ⟨S16x64x126x126x9, .i32⟩
  | 118 => ⟨S16x64x126x126x9, .i32⟩
  | 119 => ⟨S16x64x126x126x9, .i32⟩
  | 120 => ⟨S16x64x126x126x9, .i32⟩
  | 121 => ⟨S_, .i32⟩
  | 122 => ⟨S16x64x126x126x9, .i32⟩
  | 123 => ⟨S16x64x126x126x9, .i32⟩
  | 124 => ⟨S_, .i32⟩
  | 125 => ⟨S16x64x126x126x9, .i32⟩
  | 126 => ⟨S16x64x126x126x9, .i32⟩
  | 127 => ⟨S16x64x126x126x9, .i32⟩
  | _ => ⟨S16x64x128x128, .f32⟩

abbrev hbmTy0_1 (i : Nat) : BufTy := match i % 128 with
  | 0 => ⟨S16x64x126x126x9, .i32⟩
  | 1 => ⟨S16x64x126x126x9, .i32⟩
  | 2 => ⟨S16x64x126x126x9, .i32⟩
  | 3 => ⟨S16x64x126x126x9, .i32⟩
  | 4 => ⟨S16x64x126x126x9, .i32⟩
  | 5 => ⟨S_, .i32⟩
  | 6 => ⟨S16x64x126x126x9, .i32⟩
  | 7 => ⟨S16x64x126x126x9, .i32⟩
  | 8 => ⟨S16x64x126x126x9, .i32⟩
  | 9 => ⟨S_, .i32⟩
  | 10 => ⟨S16x64x126x126x9, .i32⟩
  | 11 => ⟨S16x64x126x126x9, .i32⟩
  | 12 => ⟨S_, .i32⟩
  | 13 => ⟨S16x64x126x126x9, .i32⟩
  | 14 => ⟨S16x64x126x126x9, .i32⟩
  | 15 => ⟨S16x64x126x126x9, .i32⟩
  | 16 => ⟨S16x64x126x126x9, .i32⟩
  | 17 => ⟨S16x64x126x126x9, .i32⟩
  | 18 => ⟨S_, .i32⟩
  | 19 => ⟨S16x64x126x126x9, .i32⟩
  | 20 => ⟨S16x64x126x126x9, .i32⟩
  | 21 => ⟨S_, .i32⟩
  | 22 => ⟨S16x64x126x126x9, .i32⟩
  | 23 => ⟨S16x64x126x126x9, .i32⟩
  | 24 => ⟨S16x64x126x126x9, .i32⟩
  | 25 => ⟨S16x64x126x126x9, .i32⟩
  | 26 => ⟨S16x64x126x126x9, .i32⟩
  | 27 => ⟨S_, .i32⟩
  | 28 => ⟨S16x64x126x126x9, .i32⟩
  | 29 => ⟨S16x64x126x126x9, .i32⟩
  | 30 => ⟨S_, .i32⟩
  | 31 => ⟨S16x64x126x126x9, .i32⟩
  | 32 => ⟨S16x64x126x126x9, .i32⟩
  | 33 => ⟨S16x64x126x126x9, .i32⟩
  | 34 => ⟨S16x64x126x126x9, .i32⟩
  | 35 => ⟨S16x64x126x126x9, .i32⟩
  | 36 => ⟨S_, .i32⟩
  | 37 => ⟨S16x64x126x126x9, .i32⟩
  | 38 => ⟨S16x64x126x126x9, .i32⟩
  | 39 => ⟨S_, .i32⟩
  | 40 => ⟨S16x64x126x126x9, .i32⟩
  | 41 => ⟨S16x64x126x126x9, .i32⟩
  | 42 => ⟨S16x64x126x126x9, .i32⟩
  | 43 => ⟨S16x64x126x126x9, .i32⟩
  | 44 => ⟨S16x64x126x126x9, .i32⟩
  | 45 => ⟨S16x64x126x126x9, .i32⟩
  | 46 => ⟨S16x64x126x126x9, .i32⟩
  | 47 => ⟨S16x64x126x126x9, .i32⟩
  | 48 => ⟨S_, .i32⟩
  | 49 => ⟨S16x64x126x126x9, .i32⟩
  | 50 => ⟨S16x64x126x126x9, .i32⟩
  | 51 => ⟨S16x64x126x126x9, .i32⟩
  | 52 => ⟨S_, .i32⟩
  | 53 => ⟨S16x64x126x126x9, .i32⟩
  | 54 => ⟨S16x64x126x126x9, .i32⟩
  | 55 => ⟨S_, .i32⟩
  | 56 => ⟨S16x64x126x126x9, .i32⟩
  | 57 => ⟨S16x64x126x126x9, .i32⟩
  | 58 => ⟨S16x64x126x126x9, .i32⟩
  | 59 => ⟨S16x64x126x126x9, .i32⟩
  | 60 => ⟨S16x64x126x126x9, .i32⟩
  | 61 => ⟨S_, .i32⟩
  | 62 => ⟨S16x64x126x126x9, .i32⟩
  | 63 => ⟨S16x64x126x126x9, .i32⟩
  | 64 => ⟨S_, .i32⟩
  | 65 => ⟨S16x64x126x126x9, .i32⟩
  | 66 => ⟨S16x64x126x126x9, .i32⟩
  | 67 => ⟨S16x64x126x126x9, .i32⟩
  | 68 => ⟨S16x64x126x126x9, .i32⟩
  | 69 => ⟨S16x64x126x126x9, .i32⟩
  | 70 => ⟨S_, .i32⟩
  | 71 => ⟨S16x64x126x126x9, .i32⟩
  | 72 => ⟨S16x64x126x126x9, .i32⟩
  | 73 => ⟨S_, .i32⟩
  | 74 => ⟨S16x64x126x126x9, .i32⟩
  | 75 => ⟨S16x64x126x126x9, .i32⟩
  | 76 => ⟨S16x64x126x126x9, .i32⟩
  | 77 => ⟨S16x64x126x126x9, .i32⟩
  | 78 => ⟨S16x64x126x126x9, .i32⟩
  | 79 => ⟨S_, .i32⟩
  | 80 => ⟨S16x64x126x126x9, .i32⟩
  | 81 => ⟨S16x64x126x126x9, .i32⟩
  | 82 => ⟨S_, .i32⟩
  | 83 => ⟨S16x64x126x126x9, .i32⟩
  | 84 => ⟨S16x64x126x126x9, .i32⟩
  | 85 => ⟨S16x64x126x126x9, .i32⟩
  | 86 => ⟨S16x64x126x126x9, .i32⟩
  | 87 => ⟨S16x64x126x126x9, .i32⟩
  | 88 => ⟨S16x64x126x126x9, .i32⟩
  | 89 => ⟨S16x64x126x126x9, .i32⟩
  | 90 => ⟨S16x64x126x126x9, .i32⟩
  | 91 => ⟨S_, .i32⟩
  | 92 => ⟨S16x64x126x126x9, .i32⟩
  | 93 => ⟨S16x64x126x126x9, .i32⟩
  | 94 => ⟨S16x64x126x126x9, .i32⟩
  | 95 => ⟨S_, .i32⟩
  | 96 => ⟨S16x64x126x126x9, .i32⟩
  | 97 => ⟨S16x64x126x126x9, .i32⟩
  | 98 => ⟨S_, .i32⟩
  | 99 => ⟨S16x64x126x126x9, .i32⟩
  | 100 => ⟨S16x64x126x126x9, .i32⟩
  | 101 => ⟨S16x64x126x126x9, .i32⟩
  | 102 => ⟨S16x64x126x126x9, .i32⟩
  | 103 => ⟨S16x64x126x126x9, .i32⟩
  | 104 => ⟨S_, .i32⟩
  | 105 => ⟨S16x64x126x126x9, .i32⟩
  | 106 => ⟨S16x64x126x126x9, .i32⟩
  | 107 => ⟨S_, .i32⟩
  | 108 => ⟨S16x64x126x126x9, .i32⟩
  | 109 => ⟨S16x64x126x126x9, .i32⟩
  | 110 => ⟨S16x64x126x126x9, .i32⟩
  | 111 => ⟨S16x64x126x126x9, .i32⟩
  | 112 => ⟨S16x64x126x126x9, .i32⟩
  | 113 => ⟨S_, .i32⟩
  | 114 => ⟨S16x64x126x126x9, .i32⟩
  | 115 => ⟨S16x64x126x126x9, .i32⟩
  | 116 => ⟨S_, .i32⟩
  | 117 => ⟨S16x64x126x126x9, .i32⟩
  | 118 => ⟨S16x64x126x126x9, .i32⟩
  | 119 => ⟨S16x64x126x126x9, .i32⟩
  | 120 => ⟨S16x64x126x126x9, .i32⟩
  | 121 => ⟨S16x64x126x126x9, .i32⟩
  | 122 => ⟨S_, .i32⟩
  | 123 => ⟨S16x64x126x126x9, .i32⟩
  | 124 => ⟨S16x64x126x126x9, .i32⟩
  | 125 => ⟨S_, .i32⟩
  | 126 => ⟨S16x64x126x126x9, .i32⟩
  | 127 => ⟨S16x64x126x126x9, .i32⟩
  | _ => ⟨S16x64x128x128, .f32⟩

abbrev hbmTy0_2 (i : Nat) : BufTy := match i % 128 with
  | 0 => ⟨S16x64x126x126x9, .i32⟩
  | 1 => ⟨S16x64x126x126x9, .i32⟩
  | 2 => ⟨S16x64x126x126x9, .i32⟩
  | 3 => ⟨S16x64x126x126x9, .i32⟩
  | 4 => ⟨S16x64x126x126x9, .i32⟩
  | 5 => ⟨S16x64x126x126x9, .i32⟩
  | 6 => ⟨S_, .i32⟩
  | 7 => ⟨S16x64x126x126x9, .i32⟩
  | 8 => ⟨S16x64x126x126x9, .i32⟩
  | 9 => ⟨S16x64x126x126x9, .i32⟩
  | 10 => ⟨S_, .i32⟩
  | 11 => ⟨S16x64x126x126x9, .i32⟩
  | 12 => ⟨S16x64x126x126x9, .i32⟩
  | 13 => ⟨S_, .i32⟩
  | 14 => ⟨S16x64x126x126x9, .i32⟩
  | 15 => ⟨S16x64x126x126x9, .i32⟩
  | 16 => ⟨S16x64x126x126x9, .i32⟩
  | 17 => ⟨S16x64x126x126x9, .i32⟩
  | 18 => ⟨S16x64x126x126x9, .i32⟩
  | 19 => ⟨S_, .i32⟩
  | 20 => ⟨S16x64x126x126x9, .i32⟩
  | 21 => ⟨S16x64x126x126x9, .i32⟩
  | 22 => ⟨S_, .i32⟩
  | 23 => ⟨S16x64x126x126x9, .i32⟩
  | 24 => ⟨S16x64x126x126x9, .i32⟩
  | 25 => ⟨S16x64x126x126x9, .i32⟩
  | 26 => ⟨S16x64x126x126x9, .i32⟩
  | 27 => ⟨S16x64x126x126x9, .i32⟩
  | 28 => ⟨S_, .i32⟩
  | 29 => ⟨S16x64x126x126x9, .i32⟩
  | 30 => ⟨S16x64x126x126x9, .i32⟩
  | 31 => ⟨S_, .i32⟩
  | 32 => ⟨S16x64x126x126x9, .i32⟩
  | 33 => ⟨S16x64x126x126x9, .i32⟩
  | 34 => ⟨S16x64x126x126x9, .i32⟩
  | 35 => ⟨S16x64x126x126x9, .i32⟩
  | 36 => ⟨S16x64x126x126x9, .i32⟩
  | 37 => ⟨S_, .i32⟩
  | 38 => ⟨S16x64x126x126x9, .i32⟩
  | 39 => ⟨S16x64x126x126x9, .i32⟩
  | 40 => ⟨S_, .i32⟩
  | 41 => ⟨S16x64x126x126x9, .i32⟩
  | 42 => ⟨S16x64x126x126x9, .i32⟩
  | 43 => ⟨S16x64x126x126x9, .i32⟩
  | 44 => ⟨S16x64x126x126x9, .i32⟩
  | 45 => ⟨S16x64x126x126x9, .i32⟩
  | 46 => ⟨S16x64x126x126x9, .i32⟩
  | 47 => ⟨S16x64x126x126x9, .i32⟩
  | 48 => ⟨S16x64x126x126x9, .i32⟩
  | 49 => ⟨S_, .i32⟩
  | 50 => ⟨S16x64x126x126x9, .i32⟩
  | 51 => ⟨S16x64x126x126x9, .i32⟩
  | 52 => ⟨S16x64x126x126x9, .i32⟩
  | 53 => ⟨S_, .i32⟩
  | 54 => ⟨S16x64x126x126x9, .i32⟩
  | 55 => ⟨S16x64x126x126x9, .i32⟩
  | 56 => ⟨S_, .i32⟩
  | 57 => ⟨S16x64x126x126x9, .i32⟩
  | 58 => ⟨S16x64x126x126x9, .i32⟩
  | 59 => ⟨S16x64x126x126x9, .f32⟩
  | 60 => ⟨S_, .f32⟩
  | 61 => ⟨S16x64x126x126x9, .f32⟩
  | 62 => ⟨S16x64x126x126x9, .f32⟩
  | 63 => ⟨S1x1x1x1x1, .f32⟩
  | 64 => ⟨S16x64x126x126x9, .f32⟩
  | 65 => ⟨S16x64x126x126x9, .f32⟩
  | 66 => ⟨S16x64x126x126x9, .f32⟩
  | 67 => ⟨S16x64x126x126x9, .f32⟩
  | 68 => ⟨S16x64x126x126x9, .f32⟩
  | 69 => ⟨S16x64x126x126x9, .f32⟩
  | 70 => ⟨S_, .f32⟩
  | 71 => ⟨S16x64x126x126x9, .f32⟩
  | 72 => ⟨S16x64x126x126x9, .f32⟩
  | 73 => ⟨S_, .f32⟩
  | 74 => ⟨S16x64x126x126x9, .f32⟩
  | 75 => ⟨S16x64x126x126x9, .f32⟩
  | 76 => ⟨S_, .f32⟩
  | 77 => ⟨S16x64x126x126x9, .f32⟩
  | 78 => ⟨S16x64x126x126x9, .f32⟩
  | 79 => ⟨S16x64x126x126x9, .f32⟩
  | 80 => ⟨S16x64x126x126x9, .f32⟩
  | 81 => ⟨S16x64x126x126x9, .f32⟩
  | 82 => ⟨S16x64x126x126x9, .f32⟩
  | 83 => ⟨S16x64x126x126x9, .f32⟩
  | 84 => ⟨S16x64x126x126x9, .i32⟩
  | 85 => ⟨S_, .f32⟩
  | 86 => ⟨S_, .i32⟩
  | 87 => ⟨S16x64x126x126, .f32⟩
  | 88 => ⟨S16x64x126x126, .i32⟩
  | 89 => ⟨S16x64x126x126x1, .i32⟩
  | 90 => ⟨S_, .i32⟩
  | 91 => ⟨S16x64x126x126x1, .i32⟩
  | 92 => ⟨S16x64x126x126x1, .i1⟩
  | 93 => ⟨S_, .i32⟩
  | 94 => ⟨S16x64x126x126x1, .i32⟩
  | 95 => ⟨S16x64x126x126x1, .i32⟩
  | 96 => ⟨S16x64x126x126x1, .i32⟩
  | 97 => ⟨S16x64x126x126x1x1, .i32⟩
  | 98 => ⟨S1, .i32⟩
  | 99 => ⟨S_, .i32⟩
  | 100 => ⟨S16x64x126x126x1x1, .i32⟩
  | 101 => ⟨S16x64x126x126x1x1, .i1⟩
  | 102 => ⟨S1x1x1x1x1x1, .i32⟩
  | 103 => ⟨S16x64x126x126x1x1, .i32⟩
  | 104 => ⟨S16x64x126x126x1x1, .i1⟩
  | 105 => ⟨S16x64x126x126x1x1, .i1⟩
  | 106 => ⟨S_, .i1⟩
  | 107 => ⟨S16x64x126x126x1, .i1⟩
  | 108 => ⟨S16x64x126x126x1, .f32⟩
  | 109 => ⟨S_, .f32⟩
  | 110 => ⟨S16x64x126x126x1, .f32⟩
  | 111 => ⟨S16x64x126x126x1, .f32⟩
  | 112 => ⟨S16x64x126x126, .f32⟩
  | 113 => ⟨S1024x126x126, .f32⟩
  | _ => ⟨S16x64x128x128, .f32⟩

abbrev hbmTy (i : Nat) : BufTy := match i / 128 with
  | 0 => hbmTy0_0 i
  | 1 => hbmTy0_1 i
  | 2 => hbmTy0_2 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_cst : Ref sig .tc := ⟨.hbm, 20, rfl⟩
abbrev main_call0_v0 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_c : Ref sig .tc := ⟨.hbm, 62, rfl⟩
abbrev main_call2_v13 : Ref sig .tc := ⟨.hbm, 63, rfl⟩
abbrev main_call2_v14 : Ref sig .tc := ⟨.hbm, 64, rfl⟩
abbrev main_call2_c_0 : Ref sig .tc := ⟨.hbm, 65, rfl⟩
abbrev main_call2_v15 : Ref sig .tc := ⟨.hbm, 66, rfl⟩
abbrev main_call2_v16 : Ref sig .tc := ⟨.hbm, 67, rfl⟩
abbrev main_call2_c_1 : Ref sig .tc := ⟨.hbm, 68, rfl⟩
abbrev main_call2_v17 : Ref sig .tc := ⟨.hbm, 69, rfl⟩
abbrev main_call2_v18 : Ref sig .tc := ⟨.hbm, 70, rfl⟩
abbrev main_call2_c_2 : Ref sig .tc := ⟨.hbm, 71, rfl⟩
abbrev main_call2_v19 : Ref sig .tc := ⟨.hbm, 72, rfl⟩
abbrev main_call2_v20 : Ref sig .tc := ⟨.hbm, 73, rfl⟩
abbrev main_call2_c_3 : Ref sig .tc := ⟨.hbm, 74, rfl⟩
abbrev main_call2_v21 : Ref sig .tc := ⟨.hbm, 75, rfl⟩
abbrev main_call2_v22 : Ref sig .tc := ⟨.hbm, 76, rfl⟩
abbrev main_call2_v23 : Ref sig .tc := ⟨.hbm, 77, rfl⟩
abbrev main_call2_v24 : Ref sig .tc := ⟨.hbm, 78, rfl⟩
abbrev main_call2_v25 : Ref sig .tc := ⟨.hbm, 79, rfl⟩
abbrev main_call2_v26 : Ref sig .tc := ⟨.hbm, 80, rfl⟩
abbrev main_call2_c_4 : Ref sig .tc := ⟨.hbm, 81, rfl⟩
abbrev main_call2_v27 : Ref sig .tc := ⟨.hbm, 82, rfl⟩
abbrev main_call2_v28 : Ref sig .tc := ⟨.hbm, 83, rfl⟩
abbrev main_call2_v29 : Ref sig .tc := ⟨.hbm, 84, rfl⟩
abbrev main_call2_v30 : Ref sig .tc := ⟨.hbm, 85, rfl⟩
abbrev main_call2_call0_v0 : Ref sig .tc := ⟨.hbm, 86, rfl⟩
abbrev main_call2_call0_c : Ref sig .tc := ⟨.hbm, 87, rfl⟩
abbrev main_call2_call0_v1 : Ref sig .tc := ⟨.hbm, 88, rfl⟩
abbrev main_call2_call0_v2 : Ref sig .tc := ⟨.hbm, 89, rfl⟩
abbrev main_call2_call0_v3 : Ref sig .tc := ⟨.hbm, 90, rfl⟩
abbrev main_call2_call0_v4 : Ref sig .tc := ⟨.hbm, 91, rfl⟩
abbrev main_call2_call0_v5 : Ref sig .tc := ⟨.hbm, 92, rfl⟩
abbrev main_call2_call0_v6 : Ref sig .tc := ⟨.hbm, 93, rfl⟩
abbrev main_call2_call0_c_0 : Ref sig .tc := ⟨.hbm, 94, rfl⟩
abbrev main_call2_call0_v7 : Ref sig .tc := ⟨.hbm, 95, rfl⟩
abbrev main_call2_call0_v8 : Ref sig .tc := ⟨.hbm, 96, rfl⟩
abbrev main_call2_call0_c_1 : Ref sig .tc := ⟨.hbm, 97, rfl⟩
abbrev main_call2_call0_v9 : Ref sig .tc := ⟨.hbm, 98, rfl⟩
abbrev main_call2_call0_v10 : Ref sig .tc := ⟨.hbm, 99, rfl⟩
abbrev main_call2_call0_v11 : Ref sig .tc := ⟨.hbm, 100, rfl⟩
abbrev main_call2_call0_v12 : Ref sig .tc := ⟨.hbm, 101, rfl⟩
abbrev main_call2_call0_v13 : Ref sig .tc := ⟨.hbm, 102, rfl⟩
abbrev main_call2_call0_c_2 : Ref sig .tc := ⟨.hbm, 103, rfl⟩
abbrev main_call2_call0_v14 : Ref sig .tc := ⟨.hbm, 104, rfl⟩
abbrev main_call2_call0_v15 : Ref sig .tc := ⟨.hbm, 105, rfl⟩
abbrev main_call2_call0_c_3 : Ref sig .tc := ⟨.hbm, 106, rfl⟩
abbrev main_call2_call0_v16 : Ref sig .tc := ⟨.hbm, 107, rfl⟩
abbrev main_call2_call0_v17 : Ref sig .tc := ⟨.hbm, 108, rfl⟩
abbrev main_call2_call0_v18 : Ref sig .tc := ⟨.hbm, 109, rfl⟩
abbrev main_call2_call0_v19 : Ref sig .tc := ⟨.hbm, 110, rfl⟩
abbrev main_call2_call0_v20 : Ref sig .tc := ⟨.hbm, 111, rfl⟩
abbrev main_call2_call0_c_4 : Ref sig .tc := ⟨.hbm, 112, rfl⟩
abbrev main_call2_call0_v21 : Ref sig .tc := ⟨.hbm, 113, rfl⟩
abbrev main_call2_call0_v22 : Ref sig .tc := ⟨.hbm, 114, rfl⟩
abbrev main_call2_call0_c_5 : Ref sig .tc := ⟨.hbm, 115, rfl⟩
abbrev main_call2_call0_v23 : Ref sig .tc := ⟨.hbm, 116, rfl⟩
abbrev main_call2_call0_v24 : Ref sig .tc := ⟨.hbm, 117, rfl⟩
abbrev main_call2_call0_v25 : Ref sig .tc := ⟨.hbm, 118, rfl⟩
abbrev main_call2_call0_v26 : Ref sig .tc := ⟨.hbm, 119, rfl⟩
abbrev main_call2_call0_v27 : Ref sig .tc := ⟨.hbm, 120, rfl⟩
abbrev main_call2_call0_c_6 : Ref sig .tc := ⟨.hbm, 121, rfl⟩
abbrev main_call2_call0_v28 : Ref sig .tc := ⟨.hbm, 122, rfl⟩
abbrev main_call2_call0_v29 : Ref sig .tc := ⟨.hbm, 123, rfl⟩
abbrev main_call2_call0_c_7 : Ref sig .tc := ⟨.hbm, 124, rfl⟩
abbrev main_call2_call0_v30 : Ref sig .tc := ⟨.hbm, 125, rfl⟩
abbrev main_call2_call0_v31 : Ref sig .tc := ⟨.hbm, 126, rfl⟩
abbrev main_call2_call0_v32 : Ref sig .tc := ⟨.hbm, 127, rfl⟩
abbrev main_call2_call0_v33 : Ref sig .tc := ⟨.hbm, 128, rfl⟩
abbrev main_call2_call0_v34 : Ref sig .tc := ⟨.hbm, 129, rfl⟩
abbrev main_call2_call0_v35 : Ref sig .tc := ⟨.hbm, 130, rfl⟩
abbrev main_call2_call0_v36 : Ref sig .tc := ⟨.hbm, 131, rfl⟩
abbrev main_call2_call0_v37 : Ref sig .tc := ⟨.hbm, 132, rfl⟩
abbrev main_call2_call0_c_8 : Ref sig .tc := ⟨.hbm, 133, rfl⟩
abbrev main_call2_call0_v38 : Ref sig .tc := ⟨.hbm, 134, rfl⟩
abbrev main_call2_call0_v39 : Ref sig .tc := ⟨.hbm, 135, rfl⟩
abbrev main_call2_call0_v40 : Ref sig .tc := ⟨.hbm, 136, rfl⟩
abbrev main_call2_call0_c_9 : Ref sig .tc := ⟨.hbm, 137, rfl⟩
abbrev main_call2_call0_v41 : Ref sig .tc := ⟨.hbm, 138, rfl⟩
abbrev main_call2_call0_v42 : Ref sig .tc := ⟨.hbm, 139, rfl⟩
abbrev main_call2_call0_c_10 : Ref sig .tc := ⟨.hbm, 140, rfl⟩
abbrev main_call2_call0_v43 : Ref sig .tc := ⟨.hbm, 141, rfl⟩
abbrev main_call2_call0_v44 : Ref sig .tc := ⟨.hbm, 142, rfl⟩
abbrev main_call2_call0_v45 : Ref sig .tc := ⟨.hbm, 143, rfl⟩
abbrev main_call2_call0_v46 : Ref sig .tc := ⟨.hbm, 144, rfl⟩
abbrev main_call2_call0_v47 : Ref sig .tc := ⟨.hbm, 145, rfl⟩
abbrev main_call2_call0_c_11 : Ref sig .tc := ⟨.hbm, 146, rfl⟩
abbrev main_call2_call0_v48 : Ref sig .tc := ⟨.hbm, 147, rfl⟩
abbrev main_call2_call0_v49 : Ref sig .tc := ⟨.hbm, 148, rfl⟩
abbrev main_call2_call0_c_12 : Ref sig .tc := ⟨.hbm, 149, rfl⟩
abbrev main_call2_call0_v50 : Ref sig .tc := ⟨.hbm, 150, rfl⟩
abbrev main_call2_call0_v51 : Ref sig .tc := ⟨.hbm, 151, rfl⟩
abbrev main_call2_call0_v52 : Ref sig .tc := ⟨.hbm, 152, rfl⟩
abbrev main_call2_call0_v53 : Ref sig .tc := ⟨.hbm, 153, rfl⟩
abbrev main_call2_call0_v54 : Ref sig .tc := ⟨.hbm, 154, rfl⟩
abbrev main_call2_call0_c_13 : Ref sig .tc := ⟨.hbm, 155, rfl⟩
abbrev main_call2_call0_v55 : Ref sig .tc := ⟨.hbm, 156, rfl⟩
abbrev main_call2_call0_v56 : Ref sig .tc := ⟨.hbm, 157, rfl⟩
abbrev main_call2_call0_c_14 : Ref sig .tc := ⟨.hbm, 158, rfl⟩
abbrev main_call2_call0_v57 : Ref sig .tc := ⟨.hbm, 159, rfl⟩
abbrev main_call2_call0_v58 : Ref sig .tc := ⟨.hbm, 160, rfl⟩
abbrev main_call2_call0_v59 : Ref sig .tc := ⟨.hbm, 161, rfl⟩
abbrev main_call2_call0_v60 : Ref sig .tc := ⟨.hbm, 162, rfl⟩
abbrev main_call2_call0_v61 : Ref sig .tc := ⟨.hbm, 163, rfl⟩
abbrev main_call2_call0_c_15 : Ref sig .tc := ⟨.hbm, 164, rfl⟩
abbrev main_call2_call0_v62 : Ref sig .tc := ⟨.hbm, 165, rfl⟩
abbrev main_call2_call0_v63 : Ref sig .tc := ⟨.hbm, 166, rfl⟩
abbrev main_call2_call0_c_16 : Ref sig .tc := ⟨.hbm, 167, rfl⟩
abbrev main_call2_call0_v64 : Ref sig .tc := ⟨.hbm, 168, rfl⟩
abbrev main_call2_call0_v65 : Ref sig .tc := ⟨.hbm, 169, rfl⟩
abbrev main_call2_call0_v66 : Ref sig .tc := ⟨.hbm, 170, rfl⟩
abbrev main_call2_call0_v67 : Ref sig .tc := ⟨.hbm, 171, rfl⟩
abbrev main_call2_call0_v68 : Ref sig .tc := ⟨.hbm, 172, rfl⟩
abbrev main_call2_call0_v69 : Ref sig .tc := ⟨.hbm, 173, rfl⟩
abbrev main_call2_call0_v70 : Ref sig .tc := ⟨.hbm, 174, rfl⟩
abbrev main_call2_call0_v71 : Ref sig .tc := ⟨.hbm, 175, rfl⟩
abbrev main_call2_call0_c_17 : Ref sig .tc := ⟨.hbm, 176, rfl⟩
abbrev main_call2_call0_v72 : Ref sig .tc := ⟨.hbm, 177, rfl⟩
abbrev main_call2_call0_v73 : Ref sig .tc := ⟨.hbm, 178, rfl⟩
abbrev main_call2_call0_v74 : Ref sig .tc := ⟨.hbm, 179, rfl⟩
abbrev main_call2_call0_c_18 : Ref sig .tc := ⟨.hbm, 180, rfl⟩
abbrev main_call2_call0_v75 : Ref sig .tc := ⟨.hbm, 181, rfl⟩
abbrev main_call2_call0_v76 : Ref sig .tc := ⟨.hbm, 182, rfl⟩
abbrev main_call2_call0_c_19 : Ref sig .tc := ⟨.hbm, 183, rfl⟩
abbrev main_call2_call0_v77 : Ref sig .tc := ⟨.hbm, 184, rfl⟩
abbrev main_call2_call0_v78 : Ref sig .tc := ⟨.hbm, 185, rfl⟩
abbrev main_call2_call0_v79 : Ref sig .tc := ⟨.hbm, 186, rfl⟩
abbrev main_call2_call0_v80 : Ref sig .tc := ⟨.hbm, 187, rfl⟩
abbrev main_call2_call0_v81 : Ref sig .tc := ⟨.hbm, 188, rfl⟩
abbrev main_call2_call0_c_20 : Ref sig .tc := ⟨.hbm, 189, rfl⟩
abbrev main_call2_call0_v82 : Ref sig .tc := ⟨.hbm, 190, rfl⟩
abbrev main_call2_call0_v83 : Ref sig .tc := ⟨.hbm, 191, rfl⟩
abbrev main_call2_call0_c_21 : Ref sig .tc := ⟨.hbm, 192, rfl⟩
abbrev main_call2_call0_v84 : Ref sig .tc := ⟨.hbm, 193, rfl⟩
abbrev main_call2_call0_v85 : Ref sig .tc := ⟨.hbm, 194, rfl⟩
abbrev main_call2_call0_v86 : Ref sig .tc := ⟨.hbm, 195, rfl⟩
abbrev main_call2_call0_v87 : Ref sig .tc := ⟨.hbm, 196, rfl⟩
abbrev main_call2_call0_v88 : Ref sig .tc := ⟨.hbm, 197, rfl⟩
abbrev main_call2_call0_c_22 : Ref sig .tc := ⟨.hbm, 198, rfl⟩
abbrev main_call2_call0_v89 : Ref sig .tc := ⟨.hbm, 199, rfl⟩
abbrev main_call2_call0_v90 : Ref sig .tc := ⟨.hbm, 200, rfl⟩
abbrev main_call2_call0_c_23 : Ref sig .tc := ⟨.hbm, 201, rfl⟩
abbrev main_call2_call0_v91 : Ref sig .tc := ⟨.hbm, 202, rfl⟩
abbrev main_call2_call0_v92 : Ref sig .tc := ⟨.hbm, 203, rfl⟩
abbrev main_call2_call0_v93 : Ref sig .tc := ⟨.hbm, 204, rfl⟩
abbrev main_call2_call0_v94 : Ref sig .tc := ⟨.hbm, 205, rfl⟩
abbrev main_call2_call0_v95 : Ref sig .tc := ⟨.hbm, 206, rfl⟩
abbrev main_call2_call0_c_24 : Ref sig .tc := ⟨.hbm, 207, rfl⟩
abbrev main_call2_call0_v96 : Ref sig .tc := ⟨.hbm, 208, rfl⟩
abbrev main_call2_call0_v97 : Ref sig .tc := ⟨.hbm, 209, rfl⟩
abbrev main_call2_call0_c_25 : Ref sig .tc := ⟨.hbm, 210, rfl⟩
abbrev main_call2_call0_v98 : Ref sig .tc := ⟨.hbm, 211, rfl⟩
abbrev main_call2_call0_v99 : Ref sig .tc := ⟨.hbm, 212, rfl⟩
abbrev main_call2_call0_v100 : Ref sig .tc := ⟨.hbm, 213, rfl⟩
abbrev main_call2_call0_v101 : Ref sig .tc := ⟨.hbm, 214, rfl⟩
abbrev main_call2_call0_v102 : Ref sig .tc := ⟨.hbm, 215, rfl⟩
abbrev main_call2_call0_v103 : Ref sig .tc := ⟨.hbm, 216, rfl⟩
abbrev main_call2_call0_v104 : Ref sig .tc := ⟨.hbm, 217, rfl⟩
abbrev main_call2_call0_v105 : Ref sig .tc := ⟨.hbm, 218, rfl⟩
abbrev main_call2_call0_c_26 : Ref sig .tc := ⟨.hbm, 219, rfl⟩
abbrev main_call2_call0_v106 : Ref sig .tc := ⟨.hbm, 220, rfl⟩
abbrev main_call2_call0_v107 : Ref sig .tc := ⟨.hbm, 221, rfl⟩
abbrev main_call2_call0_v108 : Ref sig .tc := ⟨.hbm, 222, rfl⟩
abbrev main_call2_call0_c_27 : Ref sig .tc := ⟨.hbm, 223, rfl⟩
abbrev main_call2_call0_v109 : Ref sig .tc := ⟨.hbm, 224, rfl⟩
abbrev main_call2_call0_v110 : Ref sig .tc := ⟨.hbm, 225, rfl⟩
abbrev main_call2_call0_c_28 : Ref sig .tc := ⟨.hbm, 226, rfl⟩
abbrev main_call2_call0_v111 : Ref sig .tc := ⟨.hbm, 227, rfl⟩
abbrev main_call2_call0_v112 : Ref sig .tc := ⟨.hbm, 228, rfl⟩
abbrev main_call2_call0_v113 : Ref sig .tc := ⟨.hbm, 229, rfl⟩
abbrev main_call2_call0_v114 : Ref sig .tc := ⟨.hbm, 230, rfl⟩
abbrev main_call2_call0_v115 : Ref sig .tc := ⟨.hbm, 231, rfl⟩
abbrev main_call2_call0_c_29 : Ref sig .tc := ⟨.hbm, 232, rfl⟩
abbrev main_call2_call0_v116 : Ref sig .tc := ⟨.hbm, 233, rfl⟩
abbrev main_call2_call0_v117 : Ref sig .tc := ⟨.hbm, 234, rfl⟩
abbrev main_call2_call0_c_30 : Ref sig .tc := ⟨.hbm, 235, rfl⟩
abbrev main_call2_call0_v118 : Ref sig .tc := ⟨.hbm, 236, rfl⟩
abbrev main_call2_call0_v119 : Ref sig .tc := ⟨.hbm, 237, rfl⟩
abbrev main_call2_call0_v120 : Ref sig .tc := ⟨.hbm, 238, rfl⟩
abbrev main_call2_call0_v121 : Ref sig .tc := ⟨.hbm, 239, rfl⟩
abbrev main_call2_call0_v122 : Ref sig .tc := ⟨.hbm, 240, rfl⟩
abbrev main_call2_call0_c_31 : Ref sig .tc := ⟨.hbm, 241, rfl⟩
abbrev main_call2_call0_v123 : Ref sig .tc := ⟨.hbm, 242, rfl⟩
abbrev main_call2_call0_v124 : Ref sig .tc := ⟨.hbm, 243, rfl⟩
abbrev main_call2_call0_c_32 : Ref sig .tc := ⟨.hbm, 244, rfl⟩
abbrev main_call2_call0_v125 : Ref sig .tc := ⟨.hbm, 245, rfl⟩
abbrev main_call2_call0_v126 : Ref sig .tc := ⟨.hbm, 246, rfl⟩
abbrev main_call2_call0_v127 : Ref sig .tc := ⟨.hbm, 247, rfl⟩
abbrev main_call2_call0_v128 : Ref sig .tc := ⟨.hbm, 248, rfl⟩
abbrev main_call2_call0_v129 : Ref sig .tc := ⟨.hbm, 249, rfl⟩
abbrev main_call2_call0_c_33 : Ref sig .tc := ⟨.hbm, 250, rfl⟩
abbrev main_call2_call0_v130 : Ref sig .tc := ⟨.hbm, 251, rfl⟩
abbrev main_call2_call0_v131 : Ref sig .tc := ⟨.hbm, 252, rfl⟩
abbrev main_call2_call0_c_34 : Ref sig .tc := ⟨.hbm, 253, rfl⟩
abbrev main_call2_call0_v132 : Ref sig .tc := ⟨.hbm, 254, rfl⟩
abbrev main_call2_call0_v133 : Ref sig .tc := ⟨.hbm, 255, rfl⟩
abbrev main_call2_call0_v134 : Ref sig .tc := ⟨.hbm, 256, rfl⟩
abbrev main_call2_call0_v135 : Ref sig .tc := ⟨.hbm, 257, rfl⟩
abbrev main_call2_call0_v136 : Ref sig .tc := ⟨.hbm, 258, rfl⟩
abbrev main_call2_call0_v137 : Ref sig .tc := ⟨.hbm, 259, rfl⟩
abbrev main_call2_call0_v138 : Ref sig .tc := ⟨.hbm, 260, rfl⟩
abbrev main_call2_call0_v139 : Ref sig .tc := ⟨.hbm, 261, rfl⟩
abbrev main_call2_call0_c_35 : Ref sig .tc := ⟨.hbm, 262, rfl⟩
abbrev main_call2_call0_v140 : Ref sig .tc := ⟨.hbm, 263, rfl⟩
abbrev main_call2_call0_v141 : Ref sig .tc := ⟨.hbm, 264, rfl⟩
abbrev main_call2_call0_v142 : Ref sig .tc := ⟨.hbm, 265, rfl⟩
abbrev main_call2_call0_c_36 : Ref sig .tc := ⟨.hbm, 266, rfl⟩
abbrev main_call2_call0_v143 : Ref sig .tc := ⟨.hbm, 267, rfl⟩
abbrev main_call2_call0_v144 : Ref sig .tc := ⟨.hbm, 268, rfl⟩
abbrev main_call2_call0_c_37 : Ref sig .tc := ⟨.hbm, 269, rfl⟩
abbrev main_call2_call0_v145 : Ref sig .tc := ⟨.hbm, 270, rfl⟩
abbrev main_call2_call0_v146 : Ref sig .tc := ⟨.hbm, 271, rfl⟩
abbrev main_call2_call0_v147 : Ref sig .tc := ⟨.hbm, 272, rfl⟩
abbrev main_call2_call0_v148 : Ref sig .tc := ⟨.hbm, 273, rfl⟩
abbrev main_call2_call0_v149 : Ref sig .tc := ⟨.hbm, 274, rfl⟩
abbrev main_call2_call0_c_38 : Ref sig .tc := ⟨.hbm, 275, rfl⟩
abbrev main_call2_call0_v150 : Ref sig .tc := ⟨.hbm, 276, rfl⟩
abbrev main_call2_call0_v151 : Ref sig .tc := ⟨.hbm, 277, rfl⟩
abbrev main_call2_call0_c_39 : Ref sig .tc := ⟨.hbm, 278, rfl⟩
abbrev main_call2_call0_v152 : Ref sig .tc := ⟨.hbm, 279, rfl⟩
abbrev main_call2_call0_v153 : Ref sig .tc := ⟨.hbm, 280, rfl⟩
abbrev main_call2_call0_v154 : Ref sig .tc := ⟨.hbm, 281, rfl⟩
abbrev main_call2_call0_v155 : Ref sig .tc := ⟨.hbm, 282, rfl⟩
abbrev main_call2_call0_v156 : Ref sig .tc := ⟨.hbm, 283, rfl⟩
abbrev main_call2_call0_c_40 : Ref sig .tc := ⟨.hbm, 284, rfl⟩
abbrev main_call2_call0_v157 : Ref sig .tc := ⟨.hbm, 285, rfl⟩
abbrev main_call2_call0_v158 : Ref sig .tc := ⟨.hbm, 286, rfl⟩
abbrev main_call2_call0_c_41 : Ref sig .tc := ⟨.hbm, 287, rfl⟩
abbrev main_call2_call0_v159 : Ref sig .tc := ⟨.hbm, 288, rfl⟩
abbrev main_call2_call0_v160 : Ref sig .tc := ⟨.hbm, 289, rfl⟩
abbrev main_call2_call0_v161 : Ref sig .tc := ⟨.hbm, 290, rfl⟩
abbrev main_call2_call0_v162 : Ref sig .tc := ⟨.hbm, 291, rfl⟩
abbrev main_call2_call0_v163 : Ref sig .tc := ⟨.hbm, 292, rfl⟩
abbrev main_call2_call0_c_42 : Ref sig .tc := ⟨.hbm, 293, rfl⟩
abbrev main_call2_call0_v164 : Ref sig .tc := ⟨.hbm, 294, rfl⟩
abbrev main_call2_call0_v165 : Ref sig .tc := ⟨.hbm, 295, rfl⟩
abbrev main_call2_call0_c_43 : Ref sig .tc := ⟨.hbm, 296, rfl⟩
abbrev main_call2_call0_v166 : Ref sig .tc := ⟨.hbm, 297, rfl⟩
abbrev main_call2_call0_v167 : Ref sig .tc := ⟨.hbm, 298, rfl⟩
abbrev main_call2_call0_v168 : Ref sig .tc := ⟨.hbm, 299, rfl⟩
abbrev main_call2_call0_v169 : Ref sig .tc := ⟨.hbm, 300, rfl⟩
abbrev main_call2_call0_v170 : Ref sig .tc := ⟨.hbm, 301, rfl⟩
abbrev main_call2_v31_0 : Ref sig .tc := ⟨.hbm, 302, rfl⟩
abbrev main_call2_call0_v172 : Ref sig .tc := ⟨.hbm, 303, rfl⟩
abbrev main_call2_call0_v173 : Ref sig .tc := ⟨.hbm, 304, rfl⟩
abbrev main_call2_call0_c_44 : Ref sig .tc := ⟨.hbm, 305, rfl⟩
abbrev main_call2_call0_v174 : Ref sig .tc := ⟨.hbm, 306, rfl⟩
abbrev main_call2_v31_1 : Ref sig .tc := ⟨.hbm, 307, rfl⟩
abbrev main_call2_v32 : Ref sig .tc := ⟨.hbm, 308, rfl⟩
abbrev main_call2_c_5 : Ref sig .tc := ⟨.hbm, 309, rfl⟩
abbrev main_call2_v33 : Ref sig .tc := ⟨.hbm, 310, rfl⟩
abbrev main_call2_v34 : Ref sig .tc := ⟨.hbm, 311, rfl⟩
abbrev main_call2_c_6 : Ref sig .tc := ⟨.hbm, 312, rfl⟩
abbrev main_call2_v35 : Ref sig .tc := ⟨.hbm, 313, rfl⟩
abbrev main_call2_v36 : Ref sig .tc := ⟨.hbm, 314, rfl⟩
abbrev main_call2_v37 : Ref sig .tc := ⟨.hbm, 315, rfl⟩
abbrev main_call2_cst : Ref sig .tc := ⟨.hbm, 316, rfl⟩
abbrev main_call2_v38 : Ref sig .tc := ⟨.hbm, 317, rfl⟩
abbrev main_call2_v39 : Ref sig .tc := ⟨.hbm, 318, rfl⟩
abbrev main_call2_v40 : Ref sig .tc := ⟨.hbm, 319, rfl⟩
abbrev main_call2_v41 : Ref sig .tc := ⟨.hbm, 320, rfl⟩
abbrev main_call2_v42 : Ref sig .tc := ⟨.hbm, 321, rfl⟩
abbrev main_call2_v43 : Ref sig .tc := ⟨.hbm, 322, rfl⟩
abbrev main_call2_v44 : Ref sig .tc := ⟨.hbm, 323, rfl⟩
abbrev main_call2_v45 : Ref sig .tc := ⟨.hbm, 324, rfl⟩
abbrev main_v35 : Ref sig .tc := ⟨.hbm, 325, rfl⟩
abbrev main_cst_6 : Ref sig .tc := ⟨.hbm, 326, rfl⟩
abbrev main_v36 : Ref sig .tc := ⟨.hbm, 327, rfl⟩
abbrev main_v37 : Ref sig .tc := ⟨.hbm, 328, rfl⟩
abbrev main_cst_7 : Ref sig .tc := ⟨.hbm, 329, rfl⟩
abbrev main_v38 : Ref sig .tc := ⟨.hbm, 330, rfl⟩
abbrev main_v39 : Ref sig .tc := ⟨.hbm, 331, rfl⟩
abbrev main_cst_8 : Ref sig .tc := ⟨.hbm, 332, rfl⟩
abbrev main_v40 : Ref sig .tc := ⟨.hbm, 333, rfl⟩
abbrev main_v41 : Ref sig .tc := ⟨.hbm, 334, rfl⟩
abbrev main_v42 : Ref sig .tc := ⟨.hbm, 335, rfl⟩
abbrev main_v43 : Ref sig .tc := ⟨.hbm, 336, rfl⟩
abbrev main_v44 : Ref sig .tc := ⟨.hbm, 337, rfl⟩
abbrev main_v45 : Ref sig .tc := ⟨.hbm, 338, rfl⟩
abbrev main_v46 : Ref sig .tc := ⟨.hbm, 339, rfl⟩
abbrev main_call3_v0 : Ref sig .tc := ⟨.hbm, 340, rfl⟩
abbrev main_call3_cst : Ref sig .tc := ⟨.hbm, 341, rfl⟩
abbrev main_call3_c : Ref sig .tc := ⟨.hbm, 342, rfl⟩
abbrev main_call3_v1_0 : Ref sig .tc := ⟨.hbm, 343, rfl⟩
abbrev main_v47 : Ref sig .tc := ⟨.hbm, 344, rfl⟩
abbrev main_v48 : Ref sig .tc := ⟨.hbm, 345, rfl⟩
abbrev main_call4_c : Ref sig .tc := ⟨.hbm, 346, rfl⟩
abbrev main_call4_v0 : Ref sig .tc := ⟨.hbm, 347, rfl⟩
abbrev main_call4_v1 : Ref sig .tc := ⟨.hbm, 348, rfl⟩
abbrev main_call4_c_0 : Ref sig .tc := ⟨.hbm, 349, rfl⟩
abbrev main_call4_v2 : Ref sig .tc := ⟨.hbm, 350, rfl⟩
abbrev main_call4_v3 : Ref sig .tc := ⟨.hbm, 351, rfl⟩
abbrev main_call4_v4 : Ref sig .tc := ⟨.hbm, 352, rfl⟩
abbrev main_call4_v5 : Ref sig .tc := ⟨.hbm, 353, rfl⟩
abbrev main_call4_c_1 : Ref sig .tc := ⟨.hbm, 354, rfl⟩
abbrev main_call4_c_2 : Ref sig .tc := ⟨.hbm, 355, rfl⟩
abbrev main_call4_v6 : Ref sig .tc := ⟨.hbm, 356, rfl⟩
abbrev main_call4_v7 : Ref sig .tc := ⟨.hbm, 357, rfl⟩
abbrev main_call4_v8 : Ref sig .tc := ⟨.hbm, 358, rfl⟩
abbrev main_call4_v9 : Ref sig .tc := ⟨.hbm, 359, rfl⟩
abbrev main_call4_v10 : Ref sig .tc := ⟨.hbm, 360, rfl⟩
abbrev main_call4_v11 : Ref sig .tc := ⟨.hbm, 361, rfl⟩
abbrev main_call4_c_3 : Ref sig .tc := ⟨.hbm, 362, rfl⟩
abbrev main_call4_v12 : Ref sig .tc := ⟨.hbm, 363, rfl⟩
abbrev main_call4_v13 : Ref sig .tc := ⟨.hbm, 364, rfl⟩
abbrev main_call4_cst : Ref sig .tc := ⟨.hbm, 365, rfl⟩
abbrev main_call4_v14 : Ref sig .tc := ⟨.hbm, 366, rfl⟩
abbrev main_v49 : Ref sig .tc := ⟨.hbm, 367, rfl⟩
abbrev main_v50 : Ref sig .tc := ⟨.hbm, 368, rfl⟩
abbrev main_v51 : Ref sig .tc := ⟨.hbm, 369, rfl⟩

abbrev nD : Nat := 1
abbrev τ : Topo := Topo.v7x

variable {F : FTy → Type} [FloatOps F]
-- ==== Proof.Block.lean ====
/-
  What the kernel's body computes of one image, as a few functions of whole 126x126 vectors: the block cipher that makes the
  random words, the Gumbel noise made of them, and the nine steps of the running maximum.
-/
module

public import proofs.«01_k».proof.Proof.Gen.KernelIdeal.Frame

@[expose] public section

noncomputable section

namespace Cert.KernelIdeal.Block

open Cert.KernelIdeal Cert.KernelIdeal.Gen Idealize.ShloMosaic Idealize.ShloMosaic.TcCoe

variable {F : FTy → Type} [FloatOps F]

/-- A word at every position. -/
abbrev Words := IVec S126x126 32

/-- One round of the cipher on all positions at once: add, rotate by `r = 32 - s`, exclusive or. -/
def round (r s : BitVec 32) (p : Words × Words) : Words × Words :=
  (addi p.1 p.2,
    xori (ori (shli p.2 (broadcast S126x126 r)) (shrui p.2 (broadcast S126x126 s))) (addi p.1 p.2))

/-- The four rounds of the first kind. -/
def roundsA (p : Words × Words) : Words × Words := round 6#32 26#32 (round 26#32 6#32 (round 15#32 17#32 (round 13#32 19#32 p)))

/-- The four rounds of the second kind. -/
def roundsB (p : Words × Words) : Words × Words := round 24#32 8#32 (round 16#32 16#32 (round 29#32 3#32 (round 17#32 15#32 p)))

/-- A key injection: `a` to the first word, `b` and the group's number `n` to the second. -/
def inject (a b n : BitVec 32) (p : Words × Words) : Words × Words :=
  (addi p.1 (broadcast S126x126 a), addi (addi p.2 (broadcast S126x126 b)) (broadcast S126x126 n))

/-- The cipher's two words for the counters `idx`, key (0, 42). -/
def cipher (idx : Words) : Words × Words :=
  inject 466689008#32 0#32 5#32 <| roundsA <| inject 42#32 466689008#32 4#32 <| roundsB <| inject 0#32 42#32 3#32 <| roundsA <|
    inject 466689008#32 0#32 2#32 <| roundsB <| inject 42#32 466689008#32 1#32 <| roundsA
      (addi (broadcast S126x126 0#32) (broadcast S126x126 0#32), addi idx (broadcast S126x126 42#32))

/-- The float32 constant of a word at every position. -/
def cst (b : BitVec 32) : FVec F S126x126 .f32 := broadcast S126x126 (Scalar.ofBits .f32 b : F .f32)

/-- The noise made of random words: the mantissa bits as a number of [0, 1), moved off zero, then -log(-log u). -/
def noiseOf (bits : Words) : FVec F S126x126 .f32 :=
  subf (cst 0x00000000#32) (log (subf (cst 0x00000000#32) (log (maximumf (cst 0x00800000#32)
    (addf (mulf (subf (bitcastToFloat .f32
        (ori (shrui bits (broadcast S126x126 9#32)) (broadcast S126x126 1065353216#32)))
      (cst 0x3F800000#32)) (cst 0x3F800000#32)) (cst 0x00800000#32))))))

/-- The noise at the counters `idx`. -/
def noise (idx : Words) : FVec F S126x126 .f32 := noiseOf (xori (cipher idx).1 (cipher idx).2)

/-- One element's probability: its positive part over the sum of the window, 1 where that sum is zero. -/
def prob (zero : IVec S126x126 1) (denom p : FVec F S126x126 .f32) : FVec F S126x126 .f32 :=
  select zero (cst 0x3F800000#32) (divf (maximumf p (cst 0x00000000#32)) denom)

/-- One step of the running maximum, on (best score, best element): element `p` of the windows, at number `j`. -/
def step (zero : IVec S126x126 1) (denom : FVec F S126x126 .f32) (base : Words) (j : BitVec 32) (p : FVec F S126x126 .f32)
    (s : FVec F S126x126 .f32 × FVec F S126x126 .f32) : FVec F S126x126 .f32 × FVec F S126x126 .f32 :=
  have score := addf (noise (addi base (broadcast S126x126 j))) (log (prob zero denom p))
  (select (cmpf .ogt score s.1) score s.1, select (cmpf .ogt score s.1) p s.2)

/-- Element (0,0), (0,1), … (2,2) of every window. -/
def elem0 (x : FVec F S128x128 .f32) : FVec F S126x126 .f32 := extractStridedSlice S126x126 ![0, 0] x slices_S128x128_o0_0_S126x126
def elem1 (x : FVec F S128x128 .f32) : FVec F S126x126 .f32 := extractStridedSlice S126x126 ![0, 1] x slices_S128x128_o0_1_S126x126
def elem2 (x : FVec F S128x128 .f32) : FVec F S126x126 .f32 := extractStridedSlice S126x126 ![0, 2] x slices_S128x128_o0_2_S126x126
def elem3 (x : FVec F S128x128 .f32) : FVec F S126x126 .f32 := extractStridedSlice S126x126 ![1, 0] x slices_S128x128_o1_0_S126x126
def elem4 (x : FVec F S128x128 .f32) : FVec F S126x126 .f32 := extractStridedSlice S126x126 ![1, 1] x slices_S128x128_o1_1_S126x126
def elem5 (x : FVec F S128x128 .f32) : FVec F S126x126 .f32 := extractStridedSlice S126x126 ![1, 2] x slices_S128x128_o1_2_S126x126
def elem6 (x : FVec F S128x128 .f32) : FVec F S126x126 .f32 := extractStridedSlice S126x126 ![2, 0] x slices_S128x128_o2_0_S126x126
def elem7 (x : FVec F S128x128 .f32) : FVec F S126x126 .f32 := extractStridedSlice S126x126 ![2, 1] x slices_S128x128_o2_1_S126x126
def elem8 (x : FVec F S128x128 .f32) : FVec F S126x126 .f32 := extractStridedSlice S126x126 ![2, 2] x slices_S128x128_o2_2_S126x126

/-- An element's positive part. -/
def pos (p : FVec F S126x126 .f32) : FVec F S126x126 .f32 := maximumf p (cst 0x00000000#32)

/-- The sum of every window's positive parts. -/
def denom (x : FVec F S128x128 .f32) : FVec F S126x126 .f32 :=
  addf (addf (addf (addf (addf (addf (addf (addf (pos (elem0 x)) (pos (elem1 x))) (pos (elem2 x))) (pos (elem3 x)))
    (pos (elem4 x))) (pos (elem5 x))) (pos (elem6 x))) (pos (elem7 x))) (pos (elem8 x))

/-- The windows' first counters at grid point `i`: nine times the position's place in the results. -/
def base (i : grid0.Coords) : Words :=
  muli (addi (muli (addi (broadcast S126x126 (Scalar.muli (BitVec.ofNat 32 (i 0).val) 126#32))
    (iota .tc S126x126 32 [0] iota_S126x126_d0_w32)) (broadcast S126x126 126#32))
    (iota .tc S126x126 32 [1] iota_S126x126_d1_w32)) (broadcast S126x126 9#32)

/-- The running maximum after the nine elements of every window. -/
def best (i : grid0.Coords) (x : FVec F S128x128 .f32) : FVec F S126x126 .f32 × FVec F S126x126 .f32 :=
  have d := denom x
  have z := cmpf .oeq d (cst 0x00000000#32)
  have b := base i
  step z d b 8#32 (elem8 x) <| step z d b 7#32 (elem7 x) <| step z d b 6#32 (elem6 x) <| step z d b 5#32 (elem5 x) <|
    step z d b 4#32 (elem4 x) <| step z d b 3#32 (elem3 x) <| step z d b 2#32 (elem2 x) <| step z d b 1#32 (elem1 x) <|
    step z d b 0#32 (elem0 x) (cst 0xFF800000#32, cst 0x00000000#32)

/-- The image inside its block. -/
def image (x0 : Vec F S1x128x128 .f32) : FVec F S128x128 .f32 :=
  shapeCast S128x128 (View.ld x0 r0_0) shapeCasts_S1x128x128_S128x128

set_option maxHeartbeats 4000000 in
set_option maxRecDepth 100000 in
/-- The body's result is the best element after all nine steps. -/
theorem out_eq (i : grid0.Coords) (x0 : Vec F S1x128x128 .f32) :
    out0_1 i x0 = View.canon [⟨r0_1, shapeCast S1x126x126 (best i (image x0)).2 shapeCasts_S126x126_S1x126x126⟩] := by
  simp only [out0_1, best, step, prob, noise, noiseOf, cipher, inject, roundsA, roundsB, round, base, denom, pos, cst,
    elem0, elem1, elem2, elem3, elem4, elem5, elem6, elem7, elem8, image,
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251,
    k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273,
    k0_pay274, k0_pay275, k0_pay276, k0_pay277, k0_pay278, k0_pay279, k0_pay280, k0_pay281, k0_pay282, k0_pay283, k0_pay284,
    k0_pay285, k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305, k0_pay306,
    k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350,
    k0_pay351, k0_pay352, k0_pay353, k0_pay354, k0_pay355, k0_pay356, k0_pay357, k0_pay358, k0_pay359, k0_pay360, k0_pay361,
    k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382, k0_pay383,
    k0_pay384, k0_pay385, k0_pay386, k0_pay387, k0_pay388, k0_pay389, k0_pay390, k0_pay391, k0_pay392, k0_pay393, k0_pay394,
    k0_pay395, k0_pay396, k0_pay397, k0_pay398, k0_pay399, k0_pay400, k0_pay401, k0_pay402, k0_pay403, k0_pay404, k0_pay405,
    k0_pay406, k0_pay407, k0_pay408, k0_pay409, k0_pay410, k0_pay411, k0_pay412, k0_pay413, k0_pay414, k0_pay415, k0_pay416,
    k0_pay417, k0_pay418, k0_pay419, k0_pay420, k0_pay421, k0_pay422, k0_pay423, k0_pay424, k0_pay425, k0_pay426, k0_pay427,
    k0_pay428, k0_pay429, k0_pay430, k0_pay431, k0_pay432, k0_pay433, k0_pay434, k0_pay435, k0_pay436, k0_pay437, k0_pay438,
    k0_pay439, k0_pay440, k0_pay441, k0_pay442, k0_pay443, k0_pay444, k0_pay445, k0_pay446, k0_pay447, k0_pay448, k0_pay449,
    k0_pay450, k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470, k0_pay471,
    k0_pay472, k0_pay473, k0_pay474, k0_pay475, k0_pay476, k0_pay477, k0_pay478, k0_pay479, k0_pay480, k0_pay481, k0_pay482,
    k0_pay483, k0_pay484, k0_pay485, k0_pay486, k0_pay487, k0_pay488, k0_pay489, k0_pay490, k0_pay491, k0_pay492, k0_pay493,
    k0_pay494, k0_pay495, k0_pay496, k0_pay497, k0_pay498, k0_pay499, k0_pay500, k0_pay501, k0_pay502, k0_pay503, k0_pay504,
    k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526,
    k0_pay527, k0_pay528, k0_pay529, k0_pay530, k0_pay531, k0_pay532, k0_pay533, k0_pay534, k0_pay535, k0_pay536]

end Cert.KernelIdeal.Block

end
-- ==== Proof.Array.lean ====
/-
  The kernel's result array as one function of its argument: at image k, row y and column x, the best element that the body
  finds at (y, x) of image k at grid point k.
-/
module

public import proofs.«01_k».proof.Proof.Block
public import proofs.«01_k».proof.Proof.Gen.KernelIdeal.Value
public import Idealize.ShloMosaic.Lib.PointwiseCore

@[expose] public section

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pointwise

variable {F : FTy → Type} [FloatOps F]

/-- Image `k` of the argument. -/
def slab (x : FVec F S16x64x128x128 .f32) (k : Fin 1024) : FVec F S128x128 .f32 :=
  fun i => shapeCast S1024x128x128 x shapeCasts_S16x64x128x128_S1024x128x128 (ix3 k (i 0) (i 1))

/-- Image `k` is channel `k % 64` of batch `k / 64`. -/
theorem slab_apply (x : FVec F S16x64x128x128 .f32) (k : Fin 1024) (a b : Fin 128) :
    slab x k (ix2 a b) = x (ix4 ⟨k.val / 64, by omega⟩ ⟨k.val % 64, by omega⟩ a b) := by
  pointwise [slab]

/-- The grid point of image `k`. -/
def point (k : Fin 1024) : Fin cfg0.N := ⟨k.val, k.isLt.trans_eq N_0.symm⟩

/-- The result array as one function of the argument. -/
def output (x : FVec F S16x64x128x128 .f32) : FVec F S1024x126x126 .f32 :=
  fun j => (best (grid0.coords (point (j 0))) (slab x (j 0))).2 (ix2 (j 1) (j 2))

/-- The one coordinate of a point is its number. -/
theorem coord : ∀ t : Fin grid0.N, (grid0.coords t 0).val = t.val := by decide +kernel

theorem point_coord (k : Fin 1024) : (grid0.coords (point k) 0).val = k.val := coord (point k)

variable (m : (ℓ : Loc nD τ sig) → Buf (Elt F) ℓ) (ρ : Dev nD → PrngReg)

theorem zeros : (![0, 0, 0] : Fin 3 → Nat) = fun _ => 0 := funext fun a => by fin_cases a <;> rfl

/-- Each window's block at point `t` is image `t`. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The image of a point. -/
def number (t : Fin cfg0.N) : Fin 1024 := ⟨t.val, t.isLt.trans_eq N_0⟩

theorem point_number (t : Fin cfg0.N) : point (number t) = t := rfl

theorem emb0 (t : Fin cfg0.N) (j : S1x128x128.Idx) : ((cfg0.win 0).blk t).view.emb j = ix3 (number t) (j 1) (j 2) := by
  obtain ⟨e0, e1, e2⟩ := index0 t
  have h0 : (j 0).val = 0 := Nat.lt_one_iff.mp (j 0).isLt
  funext a; apply Fin.ext
  match a with
  | ⟨0, _⟩ => show win0_0.index t (0 : Fin 3) * 1 + 1 * (j 0).val = t.val; omega
  | ⟨1, _⟩ => show win0_0.index t (1 : Fin 3) * 128 + 1 * (j 1).val = (j 1).val; omega
  | ⟨2, _⟩ => show win0_0.index t (2 : Fin 3) * 128 + 1 * (j 2).val = (j 2).val; omega

theorem emb1 (t : Fin cfg0.N) (j : S1x126x126.Idx) : ((cfg0.win 1).blk t).view.emb j = ix3 (number t) (j 1) (j 2) := by
  obtain ⟨e0, e1, e2⟩ := index1 t
  have h0 : (j 0).val = 0 := Nat.lt_one_iff.mp (j 0).isLt
  funext a; apply Fin.ext
  match a with
  | ⟨0, _⟩ => show win0_1.index t (0 : Fin 3) * 1 + 1 * (j 0).val = t.val; omega
  | ⟨1, _⟩ => show win0_1.index t (1 : Fin 3) * 126 + 1 * (j 1).val = (j 1).val; omega
  | ⟨2, _⟩ => show win0_1.index t (2 : Fin 3) * 126 + 1 * (j 2).val = (j 2).val; omega

/-- The host operation before the launch makes one axis of the argument's first two. -/
theorem entry (c : Dev nD) : (V m c main_call0_v0 : FVec F S1024x128x128 .f32)
    = shapeCast S1024x128x128 (m ((c : Thread nD τ).loc main_arg0)) shapeCasts_S16x64x128x128_S1024x128x128 := rfl

/-- The image that the body reads at point `t`. -/
theorem image_eq (c : Dev nD) (t : Fin cfg0.N) :
    image (iblk m c 0 t) = slab (m ((c : Thread nD τ).loc main_arg0)) (number t) := by
  unfold image
  rw [View.ld_unit_zero zeros]
  funext i
  idx_vars i
  pointwise
  show (V m c main_call0_v0 : FVec F S1024x128x128 .f32) (((cfg0.win 0).blk t).view.emb _) = _
  rw [emb0, entry]
  rfl

/-- What point `t` writes back is its block of `output`. -/
theorem flushed_eq (c : Dev nD) (t : Fin cfg0.N) :
    (dats m 0 c).flushed 1 t = ((cfg0.win 1).blk t).view.read (Elt F) (output (m ((c : Thread nD τ).loc main_arg0))) := by
  rw [flushed1, out_eq, image_eq, View.canon_unit_zero zeros]
  funext j
  show shapeCast S1x126x126 _ shapeCasts_S126x126_S1x126x126 j = output _ (((cfg0.win 1).blk t).view.emb j)
  rw [emb1]
  idx_vars j
  pointwise [output]
  rfl

/-- Every index of the result array is in the block of its image's point. -/
theorem covered (i : S1024x126x126.Idx) :
    ∃ t : Fin cfg0.N, (cfg0.win 1).flush t = true ∧ i ∈ ((cfg0.win 1).blk t).view.set :=
  ⟨point (i 0), flush0_1 _, by
    have h := ((cfg0.win 1).blk (point (i 0))).view.emb_mem_set (ix3 (0 : Fin 1) (i 1) (i 2))
    rw [emb1] at h
    have e : ix3 (number (point (i 0))) (i 1) (i 2) = i := by
      funext a; match a with | ⟨0, _⟩ => rfl | ⟨1, _⟩ => rfl | ⟨2, _⟩ => rfl
    exact e ▸ h⟩

/-- The result array after the run. -/
theorem final (c : Dev nD) : (dats m 0 c).arrAt 1 cfg0.N = output (m ((c : Thread nD τ).loc main_arg0)) :=
  (dats m 0 c).arrAt_eq_of_cover 1 _ (fun t _ => flushed_eq m c t) covered

/-- Every run of the kernel leaves `output` of its argument in the result's buffer, and the argument unchanged. -/
theorem run : θ_run defs (onTc (τ := τ) (main (F := F))) ⟨m, fun _ => 0, ρ⟩ fun r => ∀ c : Dev nD,
      r.2.mem ((c : Thread nD τ).loc main_v0) = output (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Block

end
-- ==== Proof.RefRun.lean ====
/-
  The reference is a straight line of host operations, cut by the printer into several definitions. Each of them is read here
  as one stretch with what it leaves in the buffers that a later stretch reads, and the stretches are put together.
-/
module

public import proofs.«01_k».proof.Proof.Gen.ReferenceIdeal
public import Idealize.ShloMosaic.Lib.Pipeline.Frame
public import Idealize.ShloMosaic.Lib.StableHlo.RunHlo
public import Idealize.ShloMosaic.Lib.StableHlo.RunRead
public import Idealize.ShloMosaic.Lib.Tactic.CleanTypes

@[expose] public section

noncomputable section

namespace Cert.ReferenceIdeal.Line

open Cert.ReferenceIdeal Cert.ReferenceIdeal.Facts₀ Idealize.ShloMosaic Idealize.ShloMosaic.TcCoe
open Idealize.ShloMosaic.StableHlo Idealize.SL.Sem

variable {F : FTy → Type} [FloatOps F]

/-- A program of this reference's signature. -/
abbrev Code (F : FTy → Type) [FloatOps F] :=
  Prog (TpuEff nD τ sig (Elt F) (Pipeline.Sig Λ₀ (Fin 0) fun p => (pcfgs (F := F) p).Adm) .tc) PUnit

/-- The contents of the device's buffers. -/
abbrev Bufs (F : FTy → Type) := Valuation τ sig (Elt F)

/-- The program `p` is a straight line of host operations on the TensorCore's buffers, and takes contents `V` to contents
`W` with `P V W`. -/
def Stretch (p : Code F) (P : Bufs F → Bufs F → Prop) : Prop :=
  ∃ ops : List (HloOp τ sig (Elt F)), IsSeq p ops ∧ (ops.Forall fun op => op.bufs ⊆ tcRefs τ sig) ∧
    (ops.Forall fun op => op.fresh = ∅) ∧ ∀ V, P V (after ops V)

theorem Stretch.of {p : Code F} {P : Bufs F → Bufs F → Prop} {ops : List (HloOp τ sig (Elt F))} (s : IsSeq p ops)
    (b : ops.Forall fun op => op.bufs ⊆ tcRefs τ sig) (f : ops.Forall fun op => op.fresh = ∅)
    (h : ∀ V, P V (after ops V)) : Stretch p P := ⟨ops, s, b, f, h⟩

/-- A line that ends with an operation, without a return. -/
theorem IsSeq.last (op : HloOp τ sig (Elt F)) :
    IsSeq (hlo rfl op fun _ => .ret (⟨⟩ : PUnit) : Code F) [op] := rfl

/-- Two lines, one after the other. -/
theorem IsSeq.append {p q : Code F} {l₁ l₂ : List (HloOp τ sig (Elt F))}
    (hp : IsSeq p l₁) (hq : IsSeq q l₂) : IsSeq (p >>= fun _ => q) (l₁ ++ l₂) := by
  unfold IsSeq at *
  rw [seq_append, ← hp, ← hq]

/-- The program `p` begins with the line `ops` and goes on with `k`. -/
def Front (k p : Code F) (ops : List (HloOp τ sig (Elt F))) : Prop := p = seq ops >>= fun _ => k

theorem Front.stop (k : Code F) : Front k k [] := rfl

theorem Front.cons {op : HloOp τ sig (Elt F)} {k p : Code F} {ops : List (HloOp τ sig (Elt F))} (h : Front k p ops) :
    Front k ((hlo rfl op fun _ => .ret (⟨⟩ : PUnit)) >>= fun _ => p) (op :: ops) := by
  unfold Front at h ⊢; rw [h]; rfl

/-- The beginning may be a whole line, such as a called function's. -/
theorem Front.call {k p q : Code F} {l₁ l₂ : List (HloOp τ sig (Elt F))}
    (hp : IsSeq p l₁) (hq : Front k q l₂) : Front k (p >>= fun _ => q) (l₁ ++ l₂) := by
  unfold IsSeq Front at *
  rw [seq_append, ← hp, bind_assoc, ← hq]

/-- What holds of one operation and of the rest of a list holds of all of them. -/
theorem every {α : Type _} {P : α → Prop} {a : α} {l : List α} (h : P a) (hl : l.Forall P) : (a :: l).Forall P :=
  List.forall_cons P a l |>.mpr ⟨h, hl⟩

theorem every_nil {α : Type _} {P : α → Prop} : ([] : List α).Forall P := trivial

theorem every_append {α : Type _} {P : α → Prop} {l m : List α} (h : l.Forall P) (hm : m.Forall P) : (l ++ m).Forall P :=
  List.forall_append.mpr ⟨h, hm⟩

/-- Two stretches, one after the other. -/
theorem Stretch.bind {p q : Code F} {P Q : Bufs F → Bufs F → Prop}
    (hp : Stretch p P) (hq : Stretch q Q) : Stretch (p >>= fun _ => q) fun V W => ∃ U, P V U ∧ Q U W := by
  obtain ⟨l₁, s₁, b₁, f₁, h₁⟩ := hp
  obtain ⟨l₂, s₂, b₂, f₂, h₂⟩ := hq
  refine ⟨l₁ ++ l₂, IsSeq.append s₁ s₂, List.forall_append.mpr ⟨b₁, b₂⟩, List.forall_append.mpr ⟨f₁, f₂⟩, fun V => ?_⟩
  rw [StableHlo.after_append]
  exact ⟨_, h₁ V, h₂ _⟩

/-- A stretch and what follows it in the same program. -/
theorem Stretch.front {k p : Code F} {P Q : Bufs F → Bufs F → Prop} {ops : List (HloOp τ sig (Elt F))} (s : Front k p ops)
    (b : ops.Forall fun op => op.bufs ⊆ tcRefs τ sig) (f : ops.Forall fun op => op.fresh = ∅)
    (h : ∀ V, P V (after ops V)) (hk : Stretch k Q) : Stretch p fun V W => ∃ U, P V U ∧ Q U W := by
  obtain ⟨l₂, s₂, b₂, f₂, h₂⟩ := hk
  refine ⟨ops ++ l₂, ?_, every_append b b₂, every_append f f₂, fun V => ?_⟩
  · unfold IsSeq Front at *
    rw [seq_append, s, s₂]
  · rw [StableHlo.after_append]
    exact ⟨_, h V, h₂ _⟩

/-- A stretch may claim less. -/
theorem Stretch.mono {p : Code F} {P Q : Bufs F → Bufs F → Prop} (hp : Stretch p P) (h : ∀ V W, P V W → Q V W) :
    Stretch p Q := by
  obtain ⟨l, s, b, f, hl⟩ := hp
  exact ⟨l, s, b, f, fun V => h _ _ (hl V)⟩

/-- A scalar word and a word at every element of the nine-element windows. -/
abbrev Word0 := IVec S_ 32
abbrev Words := IVec S16x64x126x126x9 32

/-- A number at every element of the nine-element windows. -/
abbrev Nums (F : FTy → Type) := FVec F S16x64x126x126x9 .f32

/-- A scalar word at every element. -/
def everyW (k : Word0) : Words := broadcastInDim S16x64x126x126x9 ![] bcast_S_S16x64x126x126x9 k

/-- The float32 number of a word, at every element. -/
def everyN (b : BitVec 32) : Nums F := broadcastInDim S16x64x126x126x9 ![] bcast_S_S16x64x126x126x9 (constant S_ .f32 b : FVec F S_ .f32)

/-- The first half of a round: add the second word to the first. -/
def add (p : Words × Words) : Words × Words := (addi p.1 p.2, p.2)

/-- The second half of a round: rotate the second word by `r = 32 - s` and take the exclusive or with the first. -/
def mix (r s : BitVec 32) (p : Words × Words) : Words × Words :=
  (p.1, xori p.1 (ori (Host.shli p.2 (everyW (constantI S_ 32 r))) (Host.shrui p.2 (everyW (constantI S_ 32 s)))))

/-- A key injection: `a` to the first word, `b` and the group's number `n` to the second. -/
def inject (a b : Word0) (n : BitVec 32) (p : Words × Words) : Words × Words :=
  (addi p.1 (everyW a), addi (addi p.2 (everyW b)) (everyW (constantI S_ 32 n)))

/-- The key schedule's third word. -/
def third (k0 k1 : Word0) : Word0 := xori (xori k0 k1) (constantI S_ 32 466688986#32)

/-- The cipher's four stretches, cut where the printed program is. -/
def part0 (k0 k1 k2 : Word0) (p : Words × Words) : Words × Words :=
  add <| mix 17#32 15#32 <| add <| inject k1 k2 1#32 <| mix 6#32 26#32 <| add <| mix 26#32 6#32 <| add <|
    mix 15#32 17#32 <| add <| mix 13#32 19#32 <| add (addi p.1 (everyW k0), addi p.2 (everyW k1))
def part1 (k0 k2 : Word0) (p : Words × Words) : Words × Words :=
  mix 26#32 6#32 <| add <| mix 15#32 17#32 <| add <| mix 13#32 19#32 <| add <| inject k2 k0 2#32 <| mix 24#32 8#32 <| add <|
    mix 16#32 16#32 <| add <| mix 29#32 3#32 p
def part2 (k0 k1 k2 : Word0) (p : Words × Words) : Words × Words :=
  add <| inject k1 k2 4#32 <| mix 24#32 8#32 <| add <| mix 16#32 16#32 <| add <| mix 29#32 3#32 <| add <| mix 17#32 15#32 <|
    add <| inject k0 k1 3#32 <| mix 6#32 26#32 <| add p
def part3 (k0 k2 : Word0) (p : Words × Words) : Words × Words :=
  inject k2 k0 5#32 <| mix 6#32 26#32 <| add <| mix 26#32 6#32 <| add <| mix 15#32 17#32 <| add <| mix 13#32 19#32 p

/-- The whole cipher. -/
def cipher (k0 k1 : Word0) (p : Words × Words) : Words × Words :=
  part3 k0 (third k0 k1) <| part2 k0 k1 (third k0 k1) <| part1 k0 (third k0 k1) <| part0 k0 k1 (third k0 k1) p

/-- The buffers `l` hold the same before and after. -/
def Keeps (l : List (Ref sig .tc)) (V W : Bufs F) : Prop := ∀ b ∈ l, W (Proc.devRef .tc b) = V (Proc.devRef .tc b)

/-! ### The cipher -/

set_option maxHeartbeats 4000000 in
set_option maxRecDepth 100000 in
theorem cipher0 : Stretch (F := F)
    (fn_threefry2x32.body_part0 (.of main_call2_v5) (.of main_call2_v7) (.of main_call2_v30) (.of main_call2_v29) main_call2_call0)
    fun V W =>
      (W (Proc.devRef .tc main_call2_call0_v47) : Words) = (part0 (V (Proc.devRef .tc main_call2_v5)) (V (Proc.devRef .tc main_call2_v7)) (third (V (Proc.devRef .tc main_call2_v5)) (V (Proc.devRef .tc main_call2_v7))) ((V (Proc.devRef .tc main_call2_v30)), (V (Proc.devRef .tc main_call2_v29)))).1 ∧
      (W (Proc.devRef .tc main_call2_call0_v46) : Words) = (part0 (V (Proc.devRef .tc main_call2_v5)) (V (Proc.devRef .tc main_call2_v7)) (third (V (Proc.devRef .tc main_call2_v5)) (V (Proc.devRef .tc main_call2_v7))) ((V (Proc.devRef .tc main_call2_v30)), (V (Proc.devRef .tc main_call2_v29)))).2 ∧
      (W (Proc.devRef .tc main_call2_call0_v1) : Word0) = third (V (Proc.devRef .tc main_call2_v5)) (V (Proc.devRef .tc main_call2_v7)) ∧
      Keeps [main_arg0, main_v18, main_v27, main_call2_v2, main_call2_v3, main_call2_v5, main_call2_v7] V W := by
  apply Stretch.of
  · unfold fn_threefry2x32.body_part0
    repeat (first | exact IsSeq.last _ | exact IsSeq.nil | apply IsSeq.cons)
  · repeat' first
      | with_reducible exact nullary_bufs_sub .. | with_reducible exact unary_bufs_sub .. | with_reducible exact binary_bufs_sub ..
      | with_reducible exact ternary_bufs_sub .. | with_reducible exact quaternary_bufs_sub .. | with_reducible exact nary_bufs_sub ..
      | with_reducible exact reshape_bufs_sub .. | with_reducible exact every_nil | with_reducible apply every | with_reducible apply every_append
  · repeat' first
      | with_reducible exact every_nil | with_reducible apply every | with_reducible apply every_append | rfl
  · intro V
    simp only [Keeps, List.forall_mem_cons, List.not_mem_nil, false_implies, implies_true, and_true]
    repeat' apply And.intro
    all_goals after_reads_simp
    all_goals simp only [TRef.toBuf, TRef.ofBuf, cast_cast, cast_eq, part0, add, mix, inject, third, everyW]

set_option maxHeartbeats 4000000 in
set_option maxRecDepth 100000 in
theorem cipher1 : Stretch (F := F)
    (fn_threefry2x32.body_part1 (.of main_call2_v5) (.of main_call2_v7) (.of main_call2_v30) (.of main_call2_v29) main_call2_call0)
    fun V W =>
      (W (Proc.devRef .tc main_call2_call0_v88) : Words) = (part1 (V (Proc.devRef .tc main_call2_v5)) (V (Proc.devRef .tc main_call2_call0_v1)) ((V (Proc.devRef .tc main_call2_call0_v47)), (V (Proc.devRef .tc main_call2_call0_v46)))).1 ∧
      (W (Proc.devRef .tc main_call2_call0_v94) : Words) = (part1 (V (Proc.devRef .tc main_call2_v5)) (V (Proc.devRef .tc main_call2_call0_v1)) ((V (Proc.devRef .tc main_call2_call0_v47)), (V (Proc.devRef .tc main_call2_call0_v46)))).2 ∧
      Keeps [main_arg0, main_v18, main_v27, main_call2_v2, main_call2_v3, main_call2_v5, main_call2_v7, main_call2_call0_v1] V W := by
  apply Stretch.of
  · unfold fn_threefry2x32.body_part1
    repeat (first | exact IsSeq.last _ | exact IsSeq.nil | apply IsSeq.cons)
  · repeat' first
      | with_reducible exact nullary_bufs_sub .. | with_reducible exact unary_bufs_sub .. | with_reducible exact binary_bufs_sub ..
      | with_reducible exact ternary_bufs_sub .. | with_reducible exact quaternary_bufs_sub .. | with_reducible exact nary_bufs_sub ..
      | with_reducible exact reshape_bufs_sub .. | with_reducible exact every_nil | with_reducible apply every | with_reducible apply every_append
  · repeat' first
      | with_reducible exact every_nil | with_reducible apply every | with_reducible apply every_append | rfl
  · intro V
    simp only [Keeps, List.forall_mem_cons, List.not_mem_nil, false_implies, implies_true, and_true]
    repeat' apply And.intro
    all_goals after_reads_simp
    all_goals simp only [TRef.toBuf, TRef.ofBuf, cast_cast, cast_eq, part1, add, mix, inject, third, everyW]

set_option maxHeartbeats 4000000 in
set_option maxRecDepth 100000 in
theorem cipher2 : Stretch (F := F)
    (fn_threefry2x32.body_part2 (.of main_call2_v5) (.of main_call2_v7) (.of main_call2_v30) (.of main_call2_v29) main_call2_call0)
    fun V W =>
      (W (Proc.devRef .tc main_call2_call0_v142) : Words) = (part2 (V (Proc.devRef .tc main_call2_v5)) (V (Proc.devRef .tc main_call2_v7)) (V (Proc.devRef .tc main_call2_call0_v1)) ((V (Proc.devRef .tc main_call2_call0_v88)), (V (Proc.devRef .tc main_call2_call0_v94)))).1 ∧
      (W (Proc.devRef .tc main_call2_call0_v141) : Words) = (part2 (V (Proc.devRef .tc main_call2_v5)) (V (Proc.devRef .tc main_call2_v7)) (V (Proc.devRef .tc main_call2_call0_v1)) ((V (Proc.devRef .tc main_call2_call0_v88)), (V (Proc.devRef .tc main_call2_call0_v94)))).2 ∧
      Keeps [main_arg0, main_v18, main_v27, main_call2_v2, main_call2_v3, main_call2_v5, main_call2_v7, main_call2_call0_v1] V W := by
  apply Stretch.of
  · unfold fn_threefry2x32.body_part2
    repeat (first | exact IsSeq.last _ | exact IsSeq.nil | apply IsSeq.cons)
  · repeat' first
      | with_reducible exact nullary_bufs_sub .. | with_reducible exact unary_bufs_sub .. | with_reducible exact binary_bufs_sub ..
      | with_reducible exact ternary_bufs_sub .. | with_reducible exact quaternary_bufs_sub .. | with_reducible exact nary_bufs_sub ..
      | with_reducible exact reshape_bufs_sub .. | with_reducible exact every_nil | with_reducible apply every | with_reducible apply every_append
  · repeat' first
      | with_reducible exact every_nil | with_reducible apply every | with_reducible apply every_append | rfl
  · intro V
    simp only [Keeps, List.forall_mem_cons, List.not_mem_nil, false_implies, implies_true, and_true]
    repeat' apply And.intro
    all_goals after_reads_simp
    all_goals simp only [TRef.toBuf, TRef.ofBuf, cast_cast, cast_eq, part2, add, mix, inject, third, everyW]

set_option maxHeartbeats 4000000 in
set_option maxRecDepth 100000 in
theorem cipher3 : Stretch (F := F)
    (fn_threefry2x32.body_part3 (.of main_call2_v5) (.of main_call2_v7) (.of main_call2_v30) (.of main_call2_v29) main_call2_call0)
    fun V W =>
      (W (Proc.devRef .tc main_call2_v31_0) : Words) = (part3 (V (Proc.devRef .tc main_call2_v5)) (V (Proc.devRef .tc main_call2_call0_v1)) ((V (Proc.devRef .tc main_call2_call0_v142)), (V (Proc.devRef .tc main_call2_call0_v141)))).1 ∧
      (W (Proc.devRef .tc main_call2_v31_1) : Words) = (part3 (V (Proc.devRef .tc main_call2_v5)) (V (Proc.devRef .tc main_call2_call0_v1)) ((V (Proc.devRef .tc main_call2_call0_v142)), (V (Proc.devRef .tc main_call2_call0_v141)))).2 ∧
      Keeps [main_arg0, main_v18, main_v27, main_call2_v2, main_call2_v3] V W := by
  apply Stretch.of
  · unfold fn_threefry2x32.body_part3
    repeat (first | exact IsSeq.last _ | exact IsSeq.nil | apply IsSeq.cons)
  · repeat' first
      | with_reducible exact nullary_bufs_sub .. | with_reducible exact unary_bufs_sub .. | with_reducible exact binary_bufs_sub ..
      | with_reducible exact ternary_bufs_sub .. | with_reducible exact quaternary_bufs_sub .. | with_reducible exact nary_bufs_sub ..
      | with_reducible exact reshape_bufs_sub .. | with_reducible exact every_nil | with_reducible apply every | with_reducible apply every_append
  · repeat' first
      | with_reducible exact every_nil | with_reducible apply every | with_reducible apply every_append | rfl
  · intro V
    simp only [Keeps, List.forall_mem_cons, List.not_mem_nil, false_implies, implies_true, and_true]
    repeat' apply And.intro
    all_goals after_reads_simp
    all_goals simp only [TRef.toBuf, TRef.ofBuf, cast_cast, cast_eq, part3, add, mix, inject, third, everyW]

/-- The cipher: its two words, and what it leaves alone. -/
theorem cipher_line : Stretch (F := F)
    (fn_threefry2x32.body (.of main_call2_v5) (.of main_call2_v7) (.of main_call2_v30) (.of main_call2_v29) main_call2_call0)
    fun V W =>
      ((W (Proc.devRef .tc main_call2_v31_0) : Words), (W (Proc.devRef .tc main_call2_v31_1) : Words))
        = cipher (V (Proc.devRef .tc main_call2_v5)) (V (Proc.devRef .tc main_call2_v7)) ((V (Proc.devRef .tc main_call2_v30)), (V (Proc.devRef .tc main_call2_v29))) ∧
      Keeps [main_arg0, main_v18, main_v27, main_call2_v2, main_call2_v3] V W := by
  refine (Stretch.bind cipher0 (Stretch.bind cipher1 (Stretch.bind cipher2 cipher3))).mono ?_
  rintro V W ⟨V1, ⟨x1, y1, t1, h1⟩, V2, ⟨x2, y2, h2⟩, V3, ⟨x3, y3, h3⟩, x4, y4, h4⟩
  simp only [Keeps, List.forall_mem_cons, List.not_mem_nil, false_implies, implies_true, and_true] at h1 h2 h3 h4 ⊢
  obtain ⟨a1, b1, c1, d1, e1, f1, g1⟩ := h1
  obtain ⟨a2, b2, c2, d2, e2, f2, g2, i2⟩ := h2
  obtain ⟨a3, b3, c3, d3, e3, f3, g3, i3⟩ := h3
  obtain ⟨a4, b4, c4, d4, e4⟩ := h4
  refine ⟨?_, a4.trans (a3.trans (a2.trans a1)), b4.trans (b3.trans (b2.trans b1)), c4.trans (c3.trans (c2.trans c1)),
    d4.trans (d3.trans (d2.trans d1)), e4.trans (e3.trans (e2.trans e1))⟩
  simp only [x4, y4, x3, y3, x2, y2, x1, y1, f3, i3, f2, g2, i2, f1, g1, t1, Prod.mk.eta, cipher]

end Cert.ReferenceIdeal.Line
-- ==== Proof.RefParts.lean ====
/-
  What the reference computes around the cipher, as functions of whole arrays: the windows and their log-probabilities, the random
  numbers, the choice of an element in every window, and the element itself.
-/
module

public import proofs.«01_k».proof.Proof.RefRun

@[expose] public section

noncomputable section

namespace Cert.ReferenceIdeal.Line

open Cert.ReferenceIdeal Cert.ReferenceIdeal.Facts₀ Idealize.ShloMosaic Idealize.ShloMosaic.TcCoe
open Idealize.ShloMosaic.StableHlo Idealize.SL.Sem

variable {F : FTy → Type} [FloatOps F]

/-- One element of every window, on an axis of extent one. -/
def elem (off : Fin 4 → Nat) (h : S16x64x128x128.Slices off S16x64x126x126) (x : FVec F S16x64x128x128 .f32) :
    FVec F S16x64x126x126x1 .f32 :=
  broadcastInDim S16x64x126x126x1 ![0, 1, 2, 3] bcast_S16x64x126x126_S16x64x126x126x1_0_1_2_3
    (extractStridedSlice S16x64x126x126 off x h)

/-- Nine arrays side by side on the last axis. -/
def joined (a0 a1 a2 a3 a4 a5 a6 a7 a8 : FVec F S16x64x126x126x1 .f32) : Nums F :=
  concatenate S16x64x126x126x9 4
   [⟨S16x64x126x126x1, a0⟩, ⟨S16x64x126x126x1, a1⟩, ⟨S16x64x126x126x1, a2⟩, ⟨S16x64x126x126x1, a3⟩, ⟨S16x64x126x126x1, a4⟩,
    ⟨S16x64x126x126x1, a5⟩, ⟨S16x64x126x126x1, a6⟩, ⟨S16x64x126x126x1, a7⟩, ⟨S16x64x126x126x1, a8⟩]
    concatenates_S16x64x126x126x1_S16x64x126x126x1_S16x64x126x126x1_S16x64x126x126x1_S16x64x126x126x1_S16x64x126x126x1_S16x64x126x126x1_S16x64x126x126x1_S16x64x126x126x1_S16x64x126x126x9_d4

/-- The nine elements of every window. -/
def windows (x : FVec F S16x64x128x128 .f32) : Nums F :=
  joined
    (elem ![0, 0, 0, 0] slices_S16x64x128x128_S16x64x126x126_0_0_0_0 x)
    (elem ![0, 0, 0, 1] slices_S16x64x128x128_S16x64x126x126_0_0_0_1 x)
    (elem ![0, 0, 0, 2] slices_S16x64x128x128_S16x64x126x126_0_0_0_2 x)
    (elem ![0, 0, 1, 0] slices_S16x64x128x128_S16x64x126x126_0_0_1_0 x)
    (elem ![0, 0, 1, 1] slices_S16x64x128x128_S16x64x126x126_0_0_1_1 x)
    (elem ![0, 0, 1, 2] slices_S16x64x128x128_S16x64x126x126_0_0_1_2 x)
    (elem ![0, 0, 2, 0] slices_S16x64x128x128_S16x64x126x126_0_0_2_0 x)
    (elem ![0, 0, 2, 1] slices_S16x64x128x128_S16x64x126x126_0_0_2_1 x)
    (elem ![0, 0, 2, 2] slices_S16x64x128x128_S16x64x126x126_0_0_2_2 x)

/-- The sum of every window's positive parts, on an axis of extent one. -/
def total (w : Nums F) : FVec F S16x64x126x126x1 .f32 :=
  broadcastInDim S16x64x126x126x1 ![0, 1, 2, 3] bcast_S16x64x126x126_S16x64x126x126x1_0_1_2_3
    (Host.reduceAdd (maximumf w (everyN 0x00000000#32)) (constant S_ .f32 0x00000000#32) reducesTo_S16x64x126x126x9_S16x64x126x126_d4 h_S_)

/-- The logarithm of every element's probability. -/
def logits (w : Nums F) : Nums F :=
  Host.log (select
    (broadcastInDim S16x64x126x126x9 ![0, 1, 2, 3, 4] bcast_S16x64x126x126x1_S16x64x126x126x9_0_1_2_3_4
      (cmpf .oeq (total w) (broadcastInDim S16x64x126x126x1 ![] bcast_S_S16x64x126x126x1 (constant S_ .f32 0x00000000#32))))
    (everyN 0x3F800000#32)
    (Host.divf (maximumf w (everyN 0x00000000#32))
      (broadcastInDim S16x64x126x126x9 ![0, 1, 2, 3, 4] bcast_S16x64x126x126x1_S16x64x126x126x9_0_1_2_3_4 (total w))))

/-- Two words side by side. -/
def pair (a b : IVec S1 32) : IVec S2 32 := concatenate S2 0 [⟨S1, a⟩, ⟨S1, b⟩] concatenates_S1_S1_S2_d0

theorem pair_eq (a b : IVec S1 32) (h) : concatenate S2 0 [⟨S1, a⟩, ⟨S1, b⟩] h = pair a b := rfl

/-- The key made of the seed 42. -/
def key : IVec S2 32 :=
  pair (broadcastInDim S1 ![] bcast_S_S1 (Host.shrui (constantI S_ 32 42#32) (constantI S_ 32 32#32)))
    (broadcastInDim S1 ![] bcast_S_S1 (andi (constantI S_ 32 42#32) (constantI S_ 32 4294967295#32)))

/-- The two words of a key. -/
def key0 (k : IVec S2 32) : Word0 := shapeCast S_ (extractStridedSlice S1 ![0] k slices_S2_S1_0) shapeCasts_S1_S_
def key1 (k : IVec S2 32) : Word0 := shapeCast S_ (extractStridedSlice S1 ![1] k slices_S2_S1_1) shapeCasts_S1_S_

/-- The 64-bit numbers of the elements, in row-major order. -/
def every64 (n : BitVec 64) : IVec S16x64x126x126x9 64 := broadcastInDim S16x64x126x126x9 ![] bcast_S_S16x64x126x126x9 (constantI S_ 64 n)
def count : IVec S16x64x126x126x9 64 :=
  addi (addi (addi (addi (muli (every64 9144576#64) (iotaInDim S16x64x126x126x9 64 0))
    (muli (every64 142884#64) (iotaInDim S16x64x126x126x9 64 1))) (muli (every64 1134#64) (iotaInDim S16x64x126x126x9 64 2)))
    (muli (every64 9#64) (iotaInDim S16x64x126x126x9 64 3))) (muli (every64 1#64) (iotaInDim S16x64x126x126x9 64 4))
def countLow : Words := trunci 32 count natLt_32_64
def countHigh : Words := trunci 32 (Host.shrui count (every64 32#64)) natLt_32_64

/-- A scalar on five axes of extent one, and that at every element. -/
def five (v : FVec F S_ .f32) : FVec F S1x1x1x1x1 .f32 := broadcastInDim S1x1x1x1x1 ![] bcast_S_S1x1x1x1x1 v
def spread (v : FVec F S1x1x1x1x1 .f32) : Nums F :=
  broadcastInDim S16x64x126x126x9 ![0, 1, 2, 3, 4] bcast_S1x1x1x1x1_S16x64x126x126x9_0_1_2_3_4 v

/-- The numbers of [lo, hi) made of the cipher's two words. -/
def unit (p : Words × Words) (lo hi : FVec F S1x1x1x1x1 .f32) : Nums F :=
  maximumf (spread lo) (addf (mulf (subf (bitcastToFloat .f32 (ori (Host.shrui (xori p.1 p.2) (everyW (constantI S_ 32 9#32)))
    (everyW (constantI S_ 32 1065353216#32)))) (everyN 0x3F800000#32)) (spread (subf hi lo))) (spread lo))

/-- Uniform random numbers of a key. -/
def uniform (k : IVec S2 32) (lo hi : FVec F S_ .f32) : Nums F :=
  unit (cipher (key0 k) (key1 k) (countHigh, countLow)) (five lo) (five hi)

/-- Every element's score: the noise made of a uniform number, and the logarithm of the probability. -/
def scores (u l : Nums F) : Nums F :=
  addf (Host.negf (Host.log (Host.negf (Host.log (maximumf (everyN 0x00800000#32)
    (addf (mulf u (everyN 0x3F800000#32)) (everyN 0x00800000#32))))))) l

/-- The number of the best element of every window. -/
def choice (s : Nums F) : IVec S16x64x126x126x1 32 :=
  broadcastInDim S16x64x126x126x1 ![0, 1, 2, 3] bcast_S16x64x126x126_S16x64x126x126x1_0_1_2_3
    (fun j => (Host.argReduce reducer_argmax_f32_i32 s (iotaInDim S16x64x126x126x9 32 4) (constant S_ .f32 0xFF800000#32)
      (constantI S_ 32 0#32) reducesTo_S16x64x126x126x9_S16x64x126x126_d4 h_S_ j).2)

/-- The number of an element, a negative one counted from the end, as the start of a gather. -/
def start (c : IVec S16x64x126x126x1 32) : IVec S16x64x126x126x1x1 32 :=
  shapeCast S16x64x126x126x1x1 (select (cmpi .slt c (broadcastInDim S16x64x126x126x1 ![] bcast_S_S16x64x126x126x1 (constantI S_ 32 0#32)))
    (addi c (broadcastInDim S16x64x126x126x1 ![] bcast_S_S16x64x126x126x1 (constantI S_ 32 9#32))) c)
    shapeCasts_S16x64x126x126x1_S16x64x126x126x1x1

/-- Whether that number is one of an element. -/
def inside (i : IVec S16x64x126x126x1x1 32) : IVec S16x64x126x126x1 1 :=
  Host.reduce IntOp.andi
    (andi (cmpi .sge i (broadcastInDim S16x64x126x126x1x1 ![] bcast_S_S16x64x126x126x1x1 (constantI S_ 32 0#32)))
      (cmpi .sle i (broadcastInDim S16x64x126x126x1x1 ![0, 1, 2, 3, 4, 5] bcast_S1x1x1x1x1x1_S16x64x126x126x1x1_0_1_2_3_4_5
        (broadcastInDim S1x1x1x1x1x1 ![5] bcast_S1_S1x1x1x1x1x1_5 (constantI S1 32 8#32)))))
    (constantI S_ 1 1#1) reducesTo_S16x64x126x126x1x1_S16x64x126x126x1_d5 h_S_

/-- The elements chosen, on an axis of extent one. -/
def picked (w : Nums F) (i : IVec S16x64x126x126x1x1 32) : FVec F S16x64x126x126x1 .f32 :=
  select (inside i)
    (Host.gather gather_S16x64x126x126x9_S16x64x126x126x1x1_S16x64x126x126x1_n_4_0123_0123_4_5_11111 w i)
    (broadcastInDim S16x64x126x126x1 ![] bcast_S_S16x64x126x126x1 (constant S_ .f32 0x7FC00000#32))

/-- The elements chosen, one per window. -/
def taken (w : Nums F) (c : IVec S16x64x126x126x1 32) : FVec F S1024x126x126 .f32 :=
  shapeCast S1024x126x126 (shapeCast S16x64x126x126 (picked w (start c))
    shapeCasts_S16x64x126x126x1_S16x64x126x126) shapeCasts_S16x64x126x126_S1024x126x126

/-- What the reference computes of its argument. -/
def result (x : FVec F S16x64x128x128 .f32) : FVec F S1024x126x126 .f32 :=
  taken (windows x) (choice (scores (uniform key (constant S_ .f32 0x00000000#32) (constant S_ .f32 0x3F800000#32)) (logits (windows x))))

end Cert.ReferenceIdeal.Line
-- ==== Proof.Words.lean ====
/-
  The random words: the block cipher on one counter, and that both programs compute it, the kernel for the counter that it
  makes of the image, the row and the column, the reference for the two halves of the element's number.
-/
module

public import proofs.«01_k».proof.Proof.Array
public import proofs.«01_k».proof.Proof.RefParts
public import Idealize.ShloMosaic.Lib.PointwiseCore

@[expose] public section

noncomputable section

namespace Cert.Draw

open Idealize.ShloMosaic Idealize.ShloMosaic.Pointwise

/-- Two words. -/
abbrev Two := BitVec 32 × BitVec 32

/-- A round on two words: add, rotate by `r = 32 - s`, exclusive or. -/
def round (r s : BitVec 32) (p : Two) : Two := (p.1 + p.2, (p.2 <<< r ||| p.2 >>> s) ^^^ (p.1 + p.2))

/-- A key injection. -/
def inject (a b n : BitVec 32) (p : Two) : Two := (p.1 + a, p.2 + b + n)

def roundsA (p : Two) : Two := round 6#32 26#32 (round 26#32 6#32 (round 15#32 17#32 (round 13#32 19#32 p)))
def roundsB (p : Two) : Two := round 24#32 8#32 (round 16#32 16#32 (round 29#32 3#32 (round 17#32 15#32 p)))

/-- The cipher of the counter (0, n) under the key (0, 42). -/
def cipher (n : BitVec 32) : Two :=
  inject 466689008#32 0#32 5#32 <| roundsA <| inject 42#32 466689008#32 4#32 <| roundsB <| inject 0#32 42#32 3#32 <| roundsA <|
    inject 466689008#32 0#32 2#32 <| roundsB <| inject 42#32 466689008#32 1#32 <| roundsA (0#32 + 0#32, n + 42#32)

/-- The random bits of a counter: those of a float32 of [1, 2). -/
def bits (n : BitVec 32) : BitVec 32 := ((cipher n).1 ^^^ (cipher n).2) >>> 9#32 ||| 1065353216#32

/-- The words at one index. -/
def read {s : Shape} (i : s.Idx) (p : IVec s 32 × IVec s 32) : Two := (p.1 i, p.2 i)

/-! ### The kernel's words -/

section
open Cert.KernelIdeal

theorem kernel_round (r s : BitVec 32) (hr : r.toNat < 32) (hs : s.toNat < 32) (p : Block.Words × Block.Words) (i : S126x126.Idx) :
    read i (Block.round r s p) = round r s (read i p) := by
  simp only [read, Block.round, round, addi, xori, ori, shli, shrui, broadcast, IntOp.addi, IntOp.xori, IntOp.ori, IntOp.shli, IntOp.shrui,
    hr, hs, if_true]

theorem kernel_inject (a b n : BitVec 32) (p : Block.Words × Block.Words) (i : S126x126.Idx) :
    read i (Block.inject a b n p) = inject a b n (read i p) := rfl

/-- The kernel's cipher at a position is the cipher of the counter there. -/
theorem kernel_cipher (idx : Block.Words) (i : S126x126.Idx) : read i (Block.cipher idx) = cipher (idx i) := by
  simp (discharger := decide) only [Block.cipher, Block.roundsA, Block.roundsB, kernel_inject, kernel_round, cipher, roundsA, roundsB]
  rfl

/-- The kernel's counter of element `j`: nine times the result's place, and `j`. -/
theorem kernel_count (k : Fin 1024) (y x : Fin 126) (j : Nat) :
    Block.base (grid0.coords (Block.point k)) (ix2 y x) + BitVec.ofNat 32 j
      = BitVec.ofNat 32 (((k.val * 126 + y.val) * 126 + x.val) * 9 + j) := by
  have e : ((grid0.coords (Block.point k)) 0).val = k.val := Block.point_coord k
  simp only [Block.base, muli, addi, broadcast, iota, IntOp.muli, IntOp.addi, Scalar.muli, e]
  simp [BitVec.ofNat_add, BitVec.ofNat_mul]
end

/-! ### The reference's words -/

section
open Cert.ReferenceIdeal

theorem every_apply (a : Line.Word0) (i : S16x64x126x126x9.Idx) : Line.everyW a i = a ix0 := by
  pointwise [Line.everyW]

theorem ref_round (r s : BitVec 32) (hr : r.toNat < 32) (hs : s.toNat < 32) (p : Line.Words × Line.Words) (i : S16x64x126x126x9.Idx) :
    read i (Line.mix r s (Line.add p)) = round r s (read i p) := by
  simp only [read, Line.mix, Line.add, round, addi, xori, ori, Host.shli, Host.shrui, every_apply, constantI, broadcast, IntOp.addi, IntOp.xori, IntOp.ori,
    IntOp.shli, IntOp.shrui, hr, hs, if_true]
  rw [BitVec.xor_comm]

theorem ref_inject (a b : Line.Word0) (n : BitVec 32) (p : Line.Words × Line.Words) (i : S16x64x126x126x9.Idx) :
    read i (Line.inject a b n p) = inject (a ix0) (b ix0) n (read i p) := by
  simp only [read, Line.inject, inject, addi, every_apply, IntOp.addi]
  rfl

theorem key0_apply : Line.key0 Line.key ix0 = 0#32 := by
  pointwise [Line.key0, Line.key, Line.pair]
  decide
theorem key1_apply : Line.key1 Line.key ix0 = 42#32 := by
  pointwise [Line.key1, Line.key, Line.pair]
  decide
theorem third_apply : Line.third (Line.key0 Line.key) (Line.key1 Line.key) ix0 = 466689008#32 := by
  show IntOp.xori (IntOp.xori _ _) _ = _
  rw [key0_apply, key1_apply]
  decide

/-- The reference's cipher at an element is the cipher of the counter there, when the counter's high half is zero. -/
theorem ref_cipher (p : Line.Words × Line.Words) (i : S16x64x126x126x9.Idx) (h : p.1 i = 0#32) :
    read i (Line.cipher (Line.key0 Line.key) (Line.key1 Line.key) p) = cipher (p.2 i) := by
  simp (discharger := decide) only [Line.cipher, Line.part0, Line.part1, Line.part2, Line.part3, ref_inject, ref_round,
    key0_apply, key1_apply, third_apply, cipher, roundsA, roundsB]
  simp only [read, addi, every_apply, IntOp.addi, key0_apply, key1_apply, h]

/-- The number of an element, in row-major order. -/
def place (b : Fin 16) (c : Fin 64) (y x : Fin 126) (j : Fin 9) : Nat :=
  (((b.val * 64 + c.val) * 126 + y.val) * 126 + x.val) * 9 + j.val

theorem place_lt (b : Fin 16) (c : Fin 64) (y x : Fin 126) (j : Fin 9) : place b c y x j < 2 ^ 32 := by
  unfold place; omega

theorem count_apply (b : Fin 16) (c : Fin 64) (y x : Fin 126) (j : Fin 9) :
    Line.count (ix5 b c y x j) = BitVec.ofNat 64 (place b c y x j) := by
  pointwise [Line.count, Line.every64]
  apply BitVec.eq_of_toNat_eq
  unfold place
  simp only [IntOp.addi, IntOp.muli, BitVec.toNat_add, BitVec.toNat_mul, BitVec.toNat_ofNat]
  omega

theorem countLow_apply (b : Fin 16) (c : Fin 64) (y x : Fin 126) (j : Fin 9) :
    Line.countLow (ix5 b c y x j) = BitVec.ofNat 32 (place b c y x j) := by
  show (Line.count (ix5 b c y x j)).setWidth 32 = _
  rw [count_apply]
  have := place_lt b c y x j
  apply BitVec.eq_of_toNat_eq
  simp only [BitVec.toNat_setWidth, BitVec.toNat_ofNat]
  omega

theorem countHigh_apply (b : Fin 16) (c : Fin 64) (y x : Fin 126) (j : Fin 9) :
    Line.countHigh (ix5 b c y x j) = 0#32 := by
  have e : Line.countHigh (ix5 b c y x j)
      = (IntOp.shrui .host (Line.count (ix5 b c y x j)) 32#64).setWidth 32 := by
    pointwise [Line.countHigh, Line.every64]
  have := place_lt b c y x j
  rw [e, count_apply]
  apply BitVec.eq_of_toNat_eq
  simp only [IntOp.shrui, BitVec.toNat_ofNat, BitVec.toNat_setWidth, BitVec.toNat_ushiftRight, BitVec.ushiftRight_eq', show (32 % 2 ^ 64 < 64) from by decide, if_true]
  rw [Nat.mod_eq_of_lt (show place b c y x j < 2 ^ 64 by omega), Nat.shiftRight_eq_div_pow, Nat.div_eq_of_lt (by simpa using this)]
end

end Cert.Draw

end
-- ==== Proof.Race.lean ====
/-
  The choice in one window, on the extended reals: the scores of the nine elements, the running maximum that the kernel keeps,
  the fold that the reference takes, and that both name the first element of the greatest score when some score is above -∞.
-/
module

public import proofs.«01_k».proof.Proof.Words
public import Idealize.ShloMosaic.PureOps.Ideal.Laws
public import Idealize.ShloMosaic.Lib.IdealHost

@[expose] public section

noncomputable section

namespace Cert.Draw

open Idealize.ShloMosaic

/-! ### The noise and the scores -/

/-- The least positive normal float32. -/
def tiny : EReal := Ideal.ofBits .f32 0x00800000#32

theorem tiny_pos : 0 < tiny := by
  unfold tiny
  simp [Ideal.ofBits, Ideal.ieee, -EReal.coe_mul]

/-- The number of [0, 1) of a counter. -/
def frac (n : BitVec 32) : EReal := Ideal.ofBits .f32 (bits n) - 1

/-- The uniform number of a counter, kept above zero. -/
def unif (n : BitVec 32) : EReal := max tiny (frac n * 1 + tiny)

/-- The noise of a counter. -/
def noise (n : BitVec 32) : EReal := -Ideal.log (-Ideal.log (unif n))

theorem unif_pos (n : BitVec 32) : 0 < unif n := lt_of_lt_of_le tiny_pos (le_max_left _ _)

/-- Taking the positive part of the number first changes nothing. -/
theorem unif_of_max (f : EReal) : max tiny (max 0 f * 1 + tiny) = max tiny (f * 1 + tiny) := by
  rw [mul_one, mul_one]
  rcases le_total 0 f with h | h
  · rw [max_eq_right h]
  · rw [max_eq_left h, zero_add, max_self]
    exact (max_eq_left (by simpa using add_le_add_left h tiny)).symm

theorem log_ne_bot {u : EReal} (h : 0 < u) : Ideal.log u ≠ ⊥ := by
  induction u with
  | bot => simp at h
  | top => exact top_ne_bot
  | coe r =>
    have : ¬ r ≤ 0 := not_le.mpr (by exact_mod_cast h)
    rw [Ideal.log_coe, if_neg this]
    exact EReal.coe_ne_bot _

theorem log_ne_top {u : EReal} (h : u ≠ ⊤) : Ideal.log u ≠ ⊤ := by
  induction u with
  | bot => exact bot_ne_top
  | top => exact absurd rfl h
  | coe r =>
    rw [Ideal.log_coe]
    split
    · exact bot_ne_top
    · exact EReal.coe_ne_top _

/-- The noise is never -∞. -/
theorem noise_ne_bot (n : BitVec 32) : noise n ≠ ⊥ := by
  have h1 := log_ne_bot (unif_pos n)
  have h2 : -Ideal.log (unif n) ≠ ⊤ := by rwa [ne_eq, EReal.neg_eq_top_iff]
  unfold noise
  rw [ne_eq, EReal.neg_eq_bot_iff]
  exact log_ne_top h2

/-- The probability of an element in a window whose positive parts sum to `d`. -/
def share (d p : EReal) : EReal := if d = 0 then 1 else Ideal.div (max p 0) d

/-- The score of an element. -/
def score (d : EReal) (n : BitVec 32) (p : EReal) : EReal := noise n + Ideal.log (share d p)

/-- The sum of a window's positive parts. -/
def mass (p : Fin 9 → EReal) : EReal := ∑ k, max (p k) 0

theorem score_ne_bot {d p : EReal} (n : BitVec 32) (h : 0 < share d p) : score d n p ≠ ⊥ := by
  unfold score
  rw [ne_eq, EReal.add_eq_bot_iff, not_or]
  exact ⟨noise_ne_bot n, log_ne_bot h⟩

/-- In a window without +∞ some element has a score above -∞. -/
theorem exists_score (p : Fin 9 → EReal) (hp : ∀ k, p k < ⊤) (n : Fin 9 → BitVec 32) :
    ∃ k, score (mass p) (n k) (p k) ≠ ⊥ := by
  by_cases hd : mass p = 0
  · exact ⟨0, score_ne_bot _ (by unfold share; rw [if_pos hd]; exact zero_lt_one)⟩
  · have hnn : ∀ k ∈ Finset.univ, 0 ≤ max (p k) 0 := fun k _ => le_max_right _ _
    obtain ⟨k, hk⟩ : ∃ k, 0 < max (p k) 0 := by
      by_contra hno
      simp only [not_exists, not_lt] at hno
      exact hd (Finset.sum_eq_zero fun k _ => le_antisymm (hno k) (le_max_right _ _))
    have hm0 : 0 < mass p := lt_of_le_of_ne (Finset.sum_nonneg hnn) (Ne.symm hd)
    have hmt : mass p ≠ ⊤ := by
      unfold mass
      refine Finset.sum_induction _ (fun e : EReal => e ≠ ⊤) (fun a b ha hb => ?_) EReal.zero_ne_top (fun k _ => ?_)
      · exact EReal.add_ne_top ha hb
      · exact (max_lt (hp k) EReal.zero_lt_top).ne
    refine ⟨k, score_ne_bot _ ?_⟩
    unfold share Ideal.div
    rw [if_neg hd, if_neg hd]
    exact EReal.mul_pos hk (EReal.inv_pos_of_pos_ne_top hm0 hmt)

/-! ### The running maximum -/

/-- One step: a strictly better score replaces the best. -/
def better (s p : EReal) (t : EReal × EReal) : EReal × EReal := (if t.1 < s then s else t.1, if t.1 < s then p else t.2)

/-- The best score and its element after the first `n` elements. -/
def running (s p : Fin 9 → EReal) : Nat → EReal × EReal
  | 0 => (⊥, 0)
  | n + 1 => better (s (Fin.ofNat 9 n)) (p (Fin.ofNat 9 n)) (running s p n)

/-- The best score is an upper bound, and unless it is -∞ the element is the first of that score. -/
theorem running_spec (s p : Fin 9 → EReal) : ∀ n ≤ 9, (∀ k : Fin 9, k.val < n → s k ≤ (running s p n).1) ∧
    ((running s p n).1 = ⊥ ∨ ∃ k : Fin 9, s k = (running s p n).1 ∧ p k = (running s p n).2 ∧ ∀ k' < k, s k' < s k)
  | 0, _ => ⟨fun k h => absurd h (Nat.not_lt_zero _), .inl rfl⟩
  | n + 1, hn => by
    obtain ⟨hub, hat⟩ := running_spec s p n (by omega)
    have hval : (Fin.ofNat 9 n).val = n := Nat.mod_eq_of_lt (by omega)
    have hlast : ∀ k : Fin 9, k.val < n + 1 → k.val < n ∨ k = Fin.ofNat 9 n := fun k hk => by
      rcases Nat.lt_succ_iff_lt_or_eq.mp hk with h | h
      · exact .inl h
      · exact .inr (Fin.ext (h.trans hval.symm))
    unfold running better
    by_cases hc : (running s p n).1 < s (Fin.ofNat 9 n)
    · simp only [if_pos hc]
      refine ⟨fun k hk => ?_, .inr ⟨Fin.ofNat 9 n, rfl, rfl, fun k' hk' => ?_⟩⟩
      · rcases hlast k hk with h | h
        · exact (hub k h).trans hc.le
        · rw [h]
      · exact (hub k' (hval ▸ hk')).trans_lt hc
    · simp only [if_neg hc]
      refine ⟨fun k hk => ?_, hat⟩
      rcases hlast k hk with h | h
      · exact hub k h
      · rw [h]; exact not_lt.mp hc

/-! ### The fold of the reference -/

/-- `a` is no better than `b`: a smaller score, or the same score at a greater or equal number. -/
def noBetter (a b : EReal × BitVec 32) : Prop := a.1 < b.1 ∨ (a.1 = b.1 ∧ b.2.toInt ≤ a.2.toInt)

theorem noBetter_refl (a : EReal × BitVec 32) : noBetter a a := .inr ⟨rfl, le_refl _⟩

theorem noBetter_trans {a b c : EReal × BitVec 32} (h : noBetter a b) (h' : noBetter b c) : noBetter a c := by
  rcases h with h | ⟨h, i⟩ <;> rcases h' with h' | ⟨h', i'⟩
  · exact .inl (h.trans h')
  · exact .inl (h' ▸ h)
  · exact .inl (h ▸ h')
  · exact .inr ⟨h.trans h', i'.trans i⟩

/-- The reference's reducer gives one of its two arguments, and neither is better than what it gives. -/
theorem reducer_spec (a b : EReal × BitVec 32) :
    (Cert.ReferenceIdeal.reducer_argmax_f32_i32 (F := Ideal) a b = a ∨ Cert.ReferenceIdeal.reducer_argmax_f32_i32 (F := Ideal) a b = b)
      ∧ noBetter a (Cert.ReferenceIdeal.reducer_argmax_f32_i32 (F := Ideal) a b)
      ∧ noBetter b (Cert.ReferenceIdeal.reducer_argmax_f32_i32 (F := Ideal) a b) := by
  obtain ⟨a1, a2⟩ := a
  obtain ⟨b1, b2⟩ := b
  have hR : Cert.ReferenceIdeal.reducer_argmax_f32_i32 (F := Ideal) (a1, a2) (b1, b2)
      = (if b1 < a1 then a1 else b1, if b1 < a1 ∨ (a1 = b1 ∧ a2.toInt < b2.toInt) then a2 else b2) := by
    unfold Cert.ReferenceIdeal.reducer_argmax_f32_i32
    by_cases h1 : b1 < a1 <;> by_cases h2 : a1 = b1 <;> by_cases h3 : a2.toInt < b2.toInt <;>
      simp [Scalar.select, Ideal.cmpf_def, Ideal.cmp, IntOp.ori, IntOp.andi, IntOp.cmpi, BitVec.slt, h1, h2, h3]
  rw [hR]
  unfold noBetter
  rcases lt_trichotomy a1 b1 with h | h | h
  · simp [h, h.not_gt, h.ne]
  · subst h
    by_cases h3 : a2.toInt < b2.toInt
    · simp [h3, h3.le]
    · simp [h3, not_lt.mp h3]
  · simp [h]

/-- The fold of a list gives the start or a pair of the list, and no pair is better. -/
theorem fold_spec (l : List (EReal × BitVec 32)) : ∀ a : EReal × BitVec 32,
    (l.foldl (Cert.ReferenceIdeal.reducer_argmax_f32_i32 (F := Ideal)) a = a ∨ l.foldl (Cert.ReferenceIdeal.reducer_argmax_f32_i32 (F := Ideal)) a ∈ l)
      ∧ noBetter a (l.foldl (Cert.ReferenceIdeal.reducer_argmax_f32_i32 (F := Ideal)) a)
      ∧ ∀ b ∈ l, noBetter b (l.foldl (Cert.ReferenceIdeal.reducer_argmax_f32_i32 (F := Ideal)) a) := by
  induction l with
  | nil => exact fun a => ⟨.inl rfl, noBetter_refl a, fun b hb => absurd hb List.not_mem_nil⟩
  | cons b l ih =>
    intro a
    obtain ⟨hmem, ha, hl⟩ := ih (Cert.ReferenceIdeal.reducer_argmax_f32_i32 (F := Ideal) a b)
    obtain ⟨hone, hra, hrb⟩ := reducer_spec a b
    rw [List.foldl_cons]
    refine ⟨?_, noBetter_trans hra ha, fun c hc => ?_⟩
    · rcases hmem with h | h
      · rw [h]
        rcases hone with h' | h'
        · exact .inl h'
        · exact .inr (by rw [h']; exact List.mem_cons_self)
      · exact .inr (List.mem_cons_of_mem _ h)
    · rcases List.mem_cons.mp hc with rfl | hc
      · exact noBetter_trans hrb ha
      · exact hl c hc

theorem toInt_small (k : Fin 9) : (BitVec.ofNat 32 k.val).toInt = k.val := by
  revert k; decide

/-- The fold of the nine scores with their numbers, in any order, names the element of the running maximum, when some score is above -∞. -/
theorem fold_running (s p : Fin 9 → EReal) (hs : ∃ k, s k ≠ ⊥) (l : List (EReal × BitVec 32))
    (hl : ∀ a, a ∈ l ↔ ∃ k : Fin 9, a = (s k, BitVec.ofNat 32 k.val)) :
    ∃ k : Fin 9, (l.foldl (Cert.ReferenceIdeal.reducer_argmax_f32_i32 (F := Ideal)) (⊥, 0#32)).2 = BitVec.ofNat 32 k.val
      ∧ p k = (running s p 9).2 := by
  obtain ⟨hmem, -, hub⟩ := fold_spec l (⊥, 0#32)
  obtain ⟨hrub, hrat⟩ := running_spec s p 9 (le_refl 9)
  generalize l.foldl (Cert.ReferenceIdeal.reducer_argmax_f32_i32 (F := Ideal)) (⊥, 0#32) = r at *
  obtain ⟨k0, hk0⟩ := hs
  have hrle : ∀ k, s k ≤ r.1 := fun k => by
    rcases hub _ ((hl _).mpr ⟨k, rfl⟩) with h | h
    · exact h.le
    · exact h.1.le
  have hr : r ≠ (⊥, 0#32) := fun e => hk0 (le_bot_iff.mp (by simpa [e] using hrle k0))
  obtain ⟨k, hk⟩ := (hl r).mp (hmem.resolve_left hr)
  have hne : (running s p 9).1 ≠ ⊥ := fun e => hk0 (le_bot_iff.mp (by simpa [e] using hrub k0 k0.isLt))
  obtain ⟨k1, hs1, hp1, hfirst⟩ := hrat.resolve_left hne
  have hmax : ∀ k', s k' ≤ s k1 := fun k' => hs1 ▸ hrub k' k'.isLt
  have hkk : s k = s k1 := le_antisymm (hmax k) (by have := hrle k1; rwa [hk] at this)
  have h1 : k1 ≤ k := not_lt.mp fun h => (hfirst k h).ne hkk
  have h2 : k ≤ k1 := by
    rcases hub _ ((hl _).mpr ⟨k1, rfl⟩) with h | h
    · rw [hk] at h; exact absurd hkk.symm h.ne
    · have := h.2
      rw [hk] at this
      simp only [toInt_small] at this
      exact Fin.le_def.mpr (by omega)
  refine ⟨k, by rw [hk], ?_⟩
  rw [le_antisymm h2 h1]
  exact hp1

end Cert.Draw

end
-- ==== Proof.Kernel.lean ====
/-
  The kernel's result at a position, on the extended reals: the running maximum of the window's nine scores.
-/
module

public import proofs.«01_k».proof.Proof.Race
public import Idealize.ShloMosaic.Lib.Pointwise

@[expose] public section

noncomputable section

namespace Cert.Draw

open Cert.KernelIdeal Cert.KernelIdeal.Gen Idealize.ShloMosaic Idealize.ShloMosaic.Pointwise

/-- The nine elements of a window, row by row. -/
def window (x : FVec Ideal S16x64x128x128 .f32) (b : Fin 16) (c : Fin 64) (y x' : Fin 126) (e : Fin 9) : EReal :=
  x (ix4 b c ⟨y.val + e.val / 3, by omega⟩ ⟨x'.val + e.val % 3, by omega⟩)

/-- The counter of element `e` of a window. -/
def counter (k : Fin 1024) (y x' : Fin 126) (e : Fin 9) : BitVec 32 :=
  BitVec.ofNat 32 (((k.val * 126 + y.val) * 126 + x'.val) * 9 + e.val)

/-- The scores of a window. -/
def scoreAt (p : Fin 9 → EReal) (k : Fin 1024) (y x' : Fin 126) (e : Fin 9) : EReal :=
  score (mass p) (counter k y x' e) (p e)

theorem cst_zero (i : S126x126.Idx) : Block.cst (F := Ideal) 0x00000000#32 i = 0 := Ideal.ofBits_zero_f32
theorem cst_one (i : S126x126.Idx) : Block.cst (F := Ideal) 0x3F800000#32 i = 1 := Ideal.ofBits_one_f32
theorem cst_tiny (i : S126x126.Idx) : Block.cst (F := Ideal) 0x00800000#32 i = tiny := rfl

/-- The mantissa bits of a word as those of a float32 of [1, 2). -/
theorem kernel_bits (a : Block.Words) (i : S126x126.Idx) :
    (ori (shrui a (broadcast S126x126 9#32)) (broadcast S126x126 1065353216#32)) i = a i >>> 9#32 ||| 1065353216#32 := by
  simp only [ori, shrui, broadcast, IntOp.ori, IntOp.shrui, show (9#32).toNat < 32 from by decide, if_true]

/-- The noise of words at a position. -/
theorem kernel_noiseOf (a : Block.Words) (i : S126x126.Idx) : Block.noiseOf (F := Ideal) a i
    = -Ideal.log (-Ideal.log (max tiny ((Ideal.ofBits .f32 (a i >>> 9#32 ||| 1065353216#32) - 1) * 1 + tiny))) := by
  have e : Block.noiseOf (F := Ideal) a i = Block.cst (F := Ideal) 0x00000000#32 i - Ideal.log (Block.cst (F := Ideal) 0x00000000#32 i
      - Ideal.log (max (Block.cst (F := Ideal) 0x00800000#32 i)
        ((Ideal.ofBits .f32 ((ori (shrui a (broadcast S126x126 9#32)) (broadcast S126x126 1065353216#32)) i)
          - Block.cst (F := Ideal) 0x3F800000#32 i) * Block.cst (F := Ideal) 0x3F800000#32 i + Block.cst (F := Ideal) 0x00800000#32 i))) := rfl
  rw [e, kernel_bits, cst_zero, cst_one, cst_tiny, zero_sub, zero_sub]

/-- The kernel's noise at a position is the noise of the counter there. -/
theorem kernel_noise (idx : Block.Words) (i : S126x126.Idx) : Block.noise (F := Ideal) idx i = noise (idx i) := by
  have h : ((Block.cipher idx).1 i, (Block.cipher idx).2 i) = cipher (idx i) := kernel_cipher idx i
  unfold Block.noise noise unif frac bits
  rw [kernel_noiseOf, ← h]
  generalize Block.cipher idx = q
  rfl

/-- The kernel's probability at a position. -/
theorem kernel_prob (d p : FVec Ideal S126x126 .f32) (i : S126x126.Idx) :
    Block.prob (F := Ideal) (cmpf .oeq d (Block.cst 0x00000000#32)) d p i = share (d i) (p i) := by
  show Scalar.select (Ideal.cmp .oeq (d i) (Block.cst (F := Ideal) 0x00000000#32 i)) (Block.cst (F := Ideal) 0x3F800000#32 i)
    (Ideal.div (max (p i) (Block.cst (F := Ideal) 0x00000000#32 i)) (d i)) = _
  rw [cst_zero, cst_one]
  unfold share
  by_cases h : d i = 0 <;> simp [Scalar.select, Ideal.cmp, h]

/-- A strictly greater score chooses. -/
theorem pick_apply (c a u v : FVec Ideal S126x126 .f32) (i : S126x126.Idx) :
    select (cmpf .ogt c a) u v i = if a i < c i then u i else v i := by
  show Scalar.select (Ideal.cmp .ogt (c i) (a i)) (u i) (v i) = _
  by_cases h : a i < c i <;> simp [Scalar.select, Ideal.cmp, h]

/-- A sum of noise and logarithm at a position. -/
theorem scored_apply (a b : FVec Ideal S126x126 .f32) (i : S126x126.Idx) : addf a (log b) i = a i + Ideal.log (b i) := rfl

/-- The vectors of a step. -/
theorem step_eq (z : IVec S126x126 1) (d : FVec Ideal S126x126 .f32) (base : Block.Words) (j : BitVec 32) (p : FVec Ideal S126x126 .f32)
    (s : FVec Ideal S126x126 .f32 × FVec Ideal S126x126 .f32) :
    Block.step z d base j p s
      = (select (cmpf .ogt (addf (Block.noise (addi base (broadcast S126x126 j))) (log (Block.prob z d p))) s.1)
          (addf (Block.noise (addi base (broadcast S126x126 j))) (log (Block.prob z d p))) s.1,
        select (cmpf .ogt (addf (Block.noise (addi base (broadcast S126x126 j))) (log (Block.prob z d p))) s.1) p s.2) := by
  unfold Block.step
  rfl

/-- A pair of vectors at a position. -/
def at2 (i : S126x126.Idx) (s : FVec Ideal S126x126 .f32 × FVec Ideal S126x126 .f32) : EReal × EReal := (s.1 i, s.2 i)

theorem at2_mk (i : S126x126.Idx) (a b : FVec Ideal S126x126 .f32) : at2 i (a, b) = (a i, b i) := rfl

/-- One step of the kernel at a position. -/
theorem kernel_step (d : FVec Ideal S126x126 .f32) (base : Block.Words) (j : BitVec 32) (p : FVec Ideal S126x126 .f32)
    (s : FVec Ideal S126x126 .f32 × FVec Ideal S126x126 .f32) (i : S126x126.Idx) :
    at2 i (Block.step (cmpf .oeq d (Block.cst 0x00000000#32)) d base j p s)
      = better (score (d i) (base i + j) (p i)) (p i) (at2 i s) := by
  have e : addi base (broadcast S126x126 j) i = base i + j := rfl
  rw [step_eq, at2_mk, pick_apply, pick_apply, scored_apply, kernel_noise, kernel_prob, e]
  rfl

/-- An element of a window in the kernel's image. -/
theorem kernel_elem_at (x : FVec Ideal S16x64x128x128 .f32) (k : Fin 1024) (y x' : Fin 126) (off : Fin 2 → Nat)
    (h : S128x128.Slices off S126x126) (e : Fin 9) (h0 : off 0 = e.val / 3) (h1 : off 1 = e.val % 3) :
    extractStridedSlice S126x126 off (Block.slab x k) h (ix2 y x')
      = window x ⟨k.val / 64, by omega⟩ ⟨k.val % 64, by omega⟩ y x' e := by
  have s : extractStridedSlice S126x126 off (Block.slab x k) h (ix2 y x')
      = Block.slab x k (ix2 ⟨y.val + e.val / 3, by omega⟩ ⟨x'.val + e.val % 3, by omega⟩) := by
    unfold extractStridedSlice
    congr 1
    funext b
    apply Fin.ext
    match b with
    | ⟨0, _⟩ => show off 0 + y.val = y.val + e.val / 3; rw [h0, Nat.add_comm]
    | ⟨1, _⟩ => show off 1 + x'.val = x'.val + e.val % 3; rw [h1, Nat.add_comm]
  rw [s, Block.slab_apply]
  rfl

/-- The elements of the kernel's windows, as the slices that it takes. -/
def elems (x : FVec Ideal S128x128 .f32) : Fin 9 → FVec Ideal S126x126 .f32 :=
  ![Block.elem0 x, Block.elem1 x, Block.elem2 x, Block.elem3 x, Block.elem4 x, Block.elem5 x, Block.elem6 x, Block.elem7 x, Block.elem8 x]

/-- Each is the windows' element of its number. -/
theorem elems_apply (x : FVec Ideal S16x64x128x128 .f32) (k : Fin 1024) (y x' : Fin 126) (e : Fin 9) :
    elems (Block.slab x k) e (ix2 y x') = window x ⟨k.val / 64, by omega⟩ ⟨k.val % 64, by omega⟩ y x' e := by
  match e with
  | ⟨0, _⟩ => exact kernel_elem_at x k y x' _ slices_S128x128_o0_0_S126x126 0 rfl rfl
  | ⟨1, _⟩ => exact kernel_elem_at x k y x' _ slices_S128x128_o0_1_S126x126 1 rfl rfl
  | ⟨2, _⟩ => exact kernel_elem_at x k y x' _ slices_S128x128_o0_2_S126x126 2 rfl rfl
  | ⟨3, _⟩ => exact kernel_elem_at x k y x' _ slices_S128x128_o1_0_S126x126 3 rfl rfl
  | ⟨4, _⟩ => exact kernel_elem_at x k y x' _ slices_S128x128_o1_1_S126x126 4 rfl rfl
  | ⟨5, _⟩ => exact kernel_elem_at x k y x' _ slices_S128x128_o1_2_S126x126 5 rfl rfl
  | ⟨6, _⟩ => exact kernel_elem_at x k y x' _ slices_S128x128_o2_0_S126x126 6 rfl rfl
  | ⟨7, _⟩ => exact kernel_elem_at x k y x' _ slices_S128x128_o2_1_S126x126 7 rfl rfl
  | ⟨8, _⟩ => exact kernel_elem_at x k y x' _ slices_S128x128_o2_2_S126x126 8 rfl rfl

/-- The kernel's sum of positive parts at a position. -/
theorem kernel_mass (x : FVec Ideal S16x64x128x128 .f32) (k : Fin 1024) (y x' : Fin 126) :
    Block.denom (Block.slab x k) (ix2 y x') = mass (window x ⟨k.val / 64, by omega⟩ ⟨k.val % 64, by omega⟩ y x') := by
  have e : ∀ p : FVec Ideal S126x126 .f32, Block.pos p (ix2 y x') = max (p (ix2 y x')) 0 := fun p =>
    congrArg (max (p (ix2 y x'))) (cst_zero _)
  have a : ∀ p q : FVec Ideal S126x126 .f32, addf p q (ix2 y x') = p (ix2 y x') + q (ix2 y x') := fun _ _ => rfl
  have d : Block.denom (Block.slab x k) = addf (addf (addf (addf (addf (addf (addf (addf (Block.pos (elems (Block.slab x k) 0)) (Block.pos (elems (Block.slab x k) 1)))
      (Block.pos (elems (Block.slab x k) 2))) (Block.pos (elems (Block.slab x k) 3))) (Block.pos (elems (Block.slab x k) 4)))
      (Block.pos (elems (Block.slab x k) 5))) (Block.pos (elems (Block.slab x k) 6))) (Block.pos (elems (Block.slab x k) 7)))
      (Block.pos (elems (Block.slab x k) 8)) := rfl
  unfold mass
  rw [Fin.sum_univ_castSucc, Fin.sum_univ_eight]
  rw [d]
  simp only [a, e, elems_apply]
  rfl

/-- The kernel's running maximum after `n` elements. -/
def taking (k : Fin 1024) (x : FVec Ideal S128x128 .f32) : Nat → FVec Ideal S126x126 .f32 × FVec Ideal S126x126 .f32
  | 0 => (Block.cst 0xFF800000#32, Block.cst 0x00000000#32)
  | n + 1 => Block.step (cmpf .oeq (Block.denom x) (Block.cst 0x00000000#32)) (Block.denom x) (Block.base (grid0.coords (Block.point k)))
      (BitVec.ofNat 32 (Fin.ofNat 9 n).val) (elems x (Fin.ofNat 9 n)) (taking k x n)

theorem best_eq (k : Fin 1024) (x : FVec Ideal S128x128 .f32) : Block.best (grid0.coords (Block.point k)) x = taking k x 9 := rfl

theorem start_eq (i : S126x126.Idx) : at2 i (Block.cst (F := Ideal) 0xFF800000#32, Block.cst (F := Ideal) 0x00000000#32) = (⊥, 0) := by
  have b : Block.cst (F := Ideal) 0xFF800000#32 i = ⊥ := by
    show Ideal.ofBits .f32 0xFF800000#32 = ⊥
    simp [Ideal.ofBits, Ideal.ieee]
  rw [at2_mk, cst_zero, b]

/-- The kernel's running maximum at a position is that of the window's scores. -/
theorem taking_apply (x : FVec Ideal S16x64x128x128 .f32) (k : Fin 1024) (y x' : Fin 126) : ∀ n : Nat,
    at2 (ix2 y x') (taking k (Block.slab x k) n)
      = running (scoreAt (window x ⟨k.val / 64, by omega⟩ ⟨k.val % 64, by omega⟩ y x') k y x')
        (window x ⟨k.val / 64, by omega⟩ ⟨k.val % 64, by omega⟩ y x') n
  | 0 => start_eq _
  | n + 1 => by
    unfold taking running
    rw [kernel_step, kernel_mass, kernel_count, elems_apply, taking_apply x k y x' n]
    unfold scoreAt counter
    rfl

/-- The kernel's result at a position: the element of the running maximum. -/
theorem output_apply (x : FVec Ideal S16x64x128x128 .f32) (k : Fin 1024) (y x' : Fin 126) :
    Block.output x (ix3 k y x') = (running (scoreAt (window x ⟨k.val / 64, by omega⟩ ⟨k.val % 64, by omega⟩ y x') k y x')
      (window x ⟨k.val / 64, by omega⟩ ⟨k.val % 64, by omega⟩ y x') 9).2 := by
  have b : Block.output x (ix3 k y x') = (at2 (ix2 y x') (Block.best (grid0.coords (Block.point k)) (Block.slab x k))).2 := rfl
  rw [b, best_eq, taking_apply]

end Cert.Draw

end
-- ==== Proof.Reference.lean ====
/-
  The reference's result at a position, on the extended reals: the element of the window that the fold of the nine scores names.
-/
module

public import proofs.«01_k».proof.Proof.Kernel

@[expose] public section

noncomputable section

namespace Cert.Draw

open Cert.ReferenceIdeal Cert.ReferenceIdeal.Facts₀ Idealize.ShloMosaic Idealize.ShloMosaic.Pointwise

/-- The reference's array of windows, read at an element. -/
theorem windows_apply (x : FVec Ideal S16x64x128x128 .f32) (b : Fin 16) (c : Fin 64) (y x' : Fin 126) (e : Fin 9) :
    Line.windows x (ix5 b c y x' e) = window x b c y x' e := by
  fin_cases e <;> pointwise [Line.windows, Line.joined, Line.elem, window]
  all_goals simp only [Nat.add_comm]

theorem everyN_zero (i : S16x64x126x126x9.Idx) : Line.everyN (F := Ideal) 0x00000000#32 i = 0 := by
  pointwise [Line.everyN]
theorem everyN_one (i : S16x64x126x126x9.Idx) : Line.everyN (F := Ideal) 0x3F800000#32 i = 1 := by
  pointwise [Line.everyN]
theorem everyN_tiny (i : S16x64x126x126x9.Idx) : Line.everyN (F := Ideal) 0x00800000#32 i = tiny := by
  pointwise [Line.everyN]
  rfl

/-- The reference's sum of positive parts. -/
theorem total_apply (w : Line.Nums Ideal) (b : Fin 16) (c : Fin 64) (y x' : Fin 126) (u : Fin 1) :
    Line.total w (ix5 b c y x' u) = mass fun e => w (ix5 b c y x' e) := by
  pointwise [Line.total]
  unfold mass
  refine Finset.sum_congr rfl fun e _ => ?_
  rw [everyN_zero]

/-- The reference's logarithm of a probability. -/
theorem logits_apply (w : Line.Nums Ideal) (b : Fin 16) (c : Fin 64) (y x' : Fin 126) (e : Fin 9) :
    Line.logits w (ix5 b c y x' e) = Ideal.log (share (mass fun e => w (ix5 b c y x' e)) (w (ix5 b c y x' e))) := by
  pointwise [Line.logits]
  rw [total_apply, everyN_one, everyN_zero]
  rfl

theorem spread_apply (v : FVec Ideal S1x1x1x1x1 .f32) (i : S16x64x126x126x9.Idx) : Line.spread v i = v (ix5 0 0 0 0 0) := by
  idx_vars i
  pointwise [Line.spread]

theorem five_apply (v : FVec Ideal S_ .f32) (i : S1x1x1x1x1.Idx) : Line.five v i = v ix0 := by
  pointwise [Line.five]

/-- The mantissa bits of a word as those of a float32 of [1, 2). -/
theorem ref_bits (a : Line.Words) (i : S16x64x126x126x9.Idx) :
    (ori (Host.shrui a (Line.everyW (constantI S_ 32 9#32))) (Line.everyW (constantI S_ 32 1065353216#32))) i
      = a i >>> 9#32 ||| 1065353216#32 := by
  simp only [ori, Host.shrui, every_apply, constantI, broadcast, IntOp.ori, IntOp.shrui, show (9#32).toNat < 32 from by decide, if_true]

/-- The numbers of [0, 1) made of two words. -/
theorem unit_apply (p : Line.Words × Line.Words) (i : S16x64x126x126x9.Idx) :
    Line.unit (F := Ideal) p (Line.five (constant S_ .f32 0x00000000#32)) (Line.five (constant S_ .f32 0x3F800000#32)) i
      = max 0 (Ideal.ofBits .f32 ((p.1 i ^^^ p.2 i) >>> 9#32 ||| 1065353216#32) - 1) := by
  have e : Line.unit (F := Ideal) p (Line.five (constant S_ .f32 0x00000000#32)) (Line.five (constant S_ .f32 0x3F800000#32)) i
      = max (Line.spread (Line.five (constant (F := Ideal) S_ .f32 0x00000000#32)) i)
        ((Ideal.ofBits .f32 ((ori (Host.shrui (xori p.1 p.2) (Line.everyW (constantI S_ 32 9#32))) (Line.everyW (constantI S_ 32 1065353216#32))) i)
          - Line.everyN (F := Ideal) 0x3F800000#32 i)
          * Line.spread (subf (Line.five (constant (F := Ideal) S_ .f32 0x3F800000#32)) (Line.five (constant (F := Ideal) S_ .f32 0x00000000#32))) i
          + Line.spread (Line.five (constant (F := Ideal) S_ .f32 0x00000000#32)) i) := rfl
  have z : constant (F := Ideal) S_ .f32 0x00000000#32 ix0 = 0 := Ideal.ofBits_zero_f32
  have o : constant (F := Ideal) S_ .f32 0x3F800000#32 ix0 = 1 := Ideal.ofBits_one_f32
  have d : subf (Line.five (constant (F := Ideal) S_ .f32 0x3F800000#32)) (Line.five (constant (F := Ideal) S_ .f32 0x00000000#32)) (ix5 0 0 0 0 0)
      = (1 : EReal) - 0 := by
    show Line.five (constant (F := Ideal) S_ .f32 0x3F800000#32) (ix5 0 0 0 0 0) - Line.five (constant (F := Ideal) S_ .f32 0x00000000#32) (ix5 0 0 0 0 0) = _
    rw [five_apply, five_apply, z, o]
  rw [e, ref_bits, spread_apply, spread_apply, five_apply, d, z, everyN_one, sub_zero, mul_one, add_zero]
  rfl

/-- The reference's uniform numbers, before they are moved off zero. -/
theorem uniform_apply (b : Fin 16) (c : Fin 64) (y x' : Fin 126) (e : Fin 9) :
    Line.uniform (F := Ideal) Line.key (constant S_ .f32 0x00000000#32) (constant S_ .f32 0x3F800000#32) (ix5 b c y x' e)
      = max 0 (frac (BitVec.ofNat 32 (place b c y x' e))) := by
  have h : read (ix5 b c y x' e) (Line.cipher (Line.key0 Line.key) (Line.key1 Line.key) (Line.countHigh, Line.countLow))
      = cipher (BitVec.ofNat 32 (place b c y x' e)) := by
    rw [← countLow_apply]
    exact ref_cipher (Line.countHigh, Line.countLow) (ix5 b c y x' e) (countHigh_apply b c y x' e)
  unfold Line.uniform frac bits
  rw [unit_apply, ← h]
  generalize Line.cipher (Line.key0 Line.key) (Line.key1 Line.key) (Line.countHigh, Line.countLow) = q
  rfl

/-- The reference's scores. -/
theorem scores_apply (u l : Line.Nums Ideal) (i : S16x64x126x126x9.Idx) :
    Line.scores u l i = -Ideal.log (-Ideal.log (max tiny (u i * 1 + tiny))) + l i := by
  have e : Line.scores u l i = -Ideal.log (-Ideal.log (max (Line.everyN (F := Ideal) 0x00800000#32 i)
    (u i * Line.everyN (F := Ideal) 0x3F800000#32 i + Line.everyN (F := Ideal) 0x00800000#32 i))) + l i := rfl
  rw [e, everyN_one, everyN_tiny]

/-- The reference's scores of a window. -/
theorem ref_scores (x : FVec Ideal S16x64x128x128 .f32) (b : Fin 16) (c : Fin 64) (y x' : Fin 126) (e : Fin 9) :
    Line.scores (Line.uniform Line.key (constant S_ .f32 0x00000000#32) (constant S_ .f32 0x3F800000#32)) (Line.logits (Line.windows x)) (ix5 b c y x' e)
      = score (mass (window x b c y x')) (BitVec.ofNat 32 (place b c y x' e)) (window x b c y x' e) := by
  have w : (fun e => Line.windows x (ix5 b c y x' e)) = window x b c y x' := funext fun e => windows_apply x b c y x' e
  rw [scores_apply, uniform_apply, logits_apply, unif_of_max, w, windows_apply]
  rfl

/-- An index that drops to a window's is one of its nine. -/
theorem drop_iff (b : Fin 16) (c : Fin 64) (y x' : Fin 126) (i : S16x64x126x126x9.Idx) :
    reducesTo_S16x64x126x126x9_S16x64x126x126_d4.drop i = ix4 b c y x' ↔ ∃ e : Fin 9, i = ix5 b c y x' e := by
  idx_vars i
  have d : reducesTo_S16x64x126x126x9_S16x64x126x126_d4.drop (ix5 i0 i1 i2 i3 i4) = ix4 i0 i1 i2 i3 := by
    funext a
    apply Fin.ext
    match a with
    | ⟨0, _⟩ => exact Shape.ReducesTo.drop_apply_val_of_eq reducesTo_S16x64x126x126x9_S16x64x126x126_d4 (ix5 i0 i1 i2 i3 i4) 0 0
    | ⟨1, _⟩ => exact Shape.ReducesTo.drop_apply_val_of_eq reducesTo_S16x64x126x126x9_S16x64x126x126_d4 (ix5 i0 i1 i2 i3 i4) 1 1
    | ⟨2, _⟩ => exact Shape.ReducesTo.drop_apply_val_of_eq reducesTo_S16x64x126x126x9_S16x64x126x126_d4 (ix5 i0 i1 i2 i3 i4) 2 2
    | ⟨3, _⟩ => exact Shape.ReducesTo.drop_apply_val_of_eq reducesTo_S16x64x126x126x9_S16x64x126x126_d4 (ix5 i0 i1 i2 i3 i4) 3 3
  rw [d]
  constructor
  · intro h
    obtain rfl : i0 = b := congrFun h 0
    obtain rfl : i1 = c := congrFun h 1
    obtain rfl : i2 = y := congrFun h 2
    obtain rfl : i3 = x' := congrFun h 3
    exact ⟨i4, rfl⟩
  · rintro ⟨e, h⟩
    obtain rfl : i0 = b := congrFun h 0
    obtain rfl : i1 = c := congrFun h 1
    obtain rfl : i2 = y := congrFun h 2
    obtain rfl : i3 = x' := congrFun h 3
    rfl

/-- The pairs that the reference's fold runs over: a window's nine scores with their numbers. -/
theorem fiber_mem (s : Line.Nums Ideal) (b : Fin 16) (c : Fin 64) (y x' : Fin 126) (a : EReal × BitVec 32) :
    a ∈ Host.argReduceFiber s (iotaInDim S16x64x126x126x9 32 4) reducesTo_S16x64x126x126x9_S16x64x126x126_d4 (ix4 b c y x')
      ↔ ∃ e : Fin 9, a = (s (ix5 b c y x' e), BitVec.ofNat 32 e.val) := by
  simp only [Host.argReduceFiber, List.mem_map, List.mem_filter, List.mem_finRange, true_and, decide_eq_true_eq, drop_iff]
  constructor
  · rintro ⟨n, ⟨e, h⟩, rfl⟩
    rw [h]
    exact ⟨e, rfl⟩
  · rintro ⟨e, rfl⟩
    refine ⟨S16x64x126x126x9.rowMajor (ix5 b c y x' e), ⟨e, Equiv.symm_apply_apply _ _⟩, ?_⟩
    rw [Equiv.symm_apply_apply]
    rfl

/-- The number that the reference chooses in a window: the fold's. -/
theorem choice_apply (s : Line.Nums Ideal) (b : Fin 16) (c : Fin 64) (y x' : Fin 126) (u : Fin 1) :
    Line.choice s (ix5 b c y x' u)
      = ((Host.argReduceFiber s (iotaInDim S16x64x126x126x9 32 4) reducesTo_S16x64x126x126x9_S16x64x126x126_d4 (ix4 b c y x')).foldl
          (reducer_argmax_f32_i32 (F := Ideal)) (⊥, 0#32)).2 := by
  have i : ((constant (F := Ideal) S_ .f32 0xFF800000#32 (Shape.Idx.first h_S_), constantI S_ 32 0#32 (Shape.Idx.first h_S_)) : EReal × BitVec 32) = (⊥, 0#32) := by
    have b : Ideal.ofBits .f32 0xFF800000#32 = ⊥ := by simp [Ideal.ofBits, Ideal.ieee]
    exact congrArg (fun v : EReal => (v, 0#32)) b
  have r : ∀ g : S16x64x126x126.Idx → BitVec 32,
      broadcastInDim S16x64x126x126x1 ![0, 1, 2, 3] bcast_S16x64x126x126_S16x64x126x126x1_0_1_2_3 g (ix5 b c y x' u) = g (ix4 b c y x') := by
    intro g
    pointwise
  unfold Line.choice
  rw [r, Ideal.argReduce_eq_reduce2, Host.reduce2_eq_foldl_fiber, i]

/-- A number of an element starts the gather as it is. -/
theorem start_apply (n : IVec S16x64x126x126x1 32) (b : Fin 16) (c : Fin 64) (y x' : Fin 126) (u v : Fin 1) (e : Fin 9)
    (h : n (ix5 b c y x' 0) = BitVec.ofNat 32 e.val) : Line.start n (ix6 b c y x' u v) = BitVec.ofNat 32 e.val := by
  pointwise [Line.start]
  rw [h]
  clear h
  revert e
  decide

/-- An and of ones is one. -/
theorem and_ones {s : Shape} (x : s.Idx → BitVec 1) (hx : ∀ i, x i = 1#1) : ∀ l : List s.Idx, l.foldl (fun r i => IntOp.andi r (x i)) 1#1 = 1#1
  | [] => rfl
  | i :: l => by
    rw [List.foldl_cons, hx i]
    exact and_ones x hx l

/-- The start indices' coordinate of a result index, on an axis paired with the result's axis `c`. -/
theorem siCoord_val {s si t : Shape} (d : GatherDims s si t) (j : t.Idx) (b : Fin si.rank) (hb : b ∈ d.siKept) (c : Fin t.rank)
    (hc : d.batchDims[d.siKept.idxOf b]? = some c) : (d.siCoord j b hb).val = (j c).val := by
  obtain ⟨hlt, rfl⟩ := List.getElem?_eq_some_iff.mp hc
  rfl

/-- The operand's coordinate of a result index on a batching axis, paired with the result's axis `c`. -/
theorem batchCoord_val {s si t : Shape} (d : GatherDims s si t) (j : t.Idx) (a : Fin s.rank) (ha : a ∈ d.operandBatchingDims) (b : Fin si.rank)
    (hb : d.startIndicesBatchingDims[d.operandBatchingDims.idxOf a]? = some b) (c : Fin t.rank)
    (hc : d.batchDims[d.siKept.idxOf b]? = some c) : d.batchCoord j a = (j c).val := by
  unfold GatherDims.batchCoord
  rw [dif_pos ha]
  obtain ⟨hlt, rfl⟩ := List.getElem?_eq_some_iff.mp hb
  exact siCoord_val d j _ _ c hc

/-- The operand's coordinate on a batching axis is the batch coordinate alone. -/
theorem operandIdx_batching {s si t : Shape} {w : Nat} (d : GatherDims s si t) (j : t.Idx) (i : IVec si w) (a : Fin s.rank) (ha : a ∈ d.operandBatchingDims) :
    (d.operandIdx j i a).val = d.batchCoord j a := by
  show d.start j i a + d.batchCoord j a + d.offCoord j a = _
  rw [d.start_batching j i a ha, d.offCoord_eq_zero j a fun h => ((d.mem_sKept a).1 h).2 ha, Nat.zero_add, Nat.add_zero]

/-- The gather of the program. -/
abbrev taker : GatherDims S16x64x126x126x9 S16x64x126x126x1x1 S16x64x126x126x1 :=
  gather_S16x64x126x126x9_S16x64x126x126x1x1_S16x64x126x126x1_n_4_0123_0123_4_5_11111

/-- The start index of a window is read at the window. -/
theorem taker_siIdx (b : Fin 16) (c : Fin 64) (y x' : Fin 126) (k : Fin taker.startIndexMap.length) :
    taker.siIdx (ix5 b c y x' 0) k = ix6 b c y x' 0 0 := by
  funext a
  apply Fin.ext
  unfold GatherDims.siIdx
  match a with
  | ⟨0, h⟩ => exact (congrArg Fin.val (dif_neg (show ¬ (0 : Nat) = 5 by decide))).trans (siCoord_val taker _ 0 _ 0 (by decide +kernel))
  | ⟨1, h⟩ => exact (congrArg Fin.val (dif_neg (show ¬ (1 : Nat) = 5 by decide))).trans (siCoord_val taker _ 1 _ 1 (by decide +kernel))
  | ⟨2, h⟩ => exact (congrArg Fin.val (dif_neg (show ¬ (2 : Nat) = 5 by decide))).trans (siCoord_val taker _ 2 _ 2 (by decide +kernel))
  | ⟨3, h⟩ => exact (congrArg Fin.val (dif_neg (show ¬ (3 : Nat) = 5 by decide))).trans (siCoord_val taker _ 3 _ 3 (by decide +kernel))
  | ⟨4, h⟩ => exact (congrArg Fin.val (dif_neg (show ¬ (4 : Nat) = 5 by decide))).trans (siCoord_val taker _ 4 _ 4 (by decide +kernel))
  | ⟨5, h⟩ => exact (congrArg Fin.val (dif_pos rfl)).trans (Nat.lt_one_iff.mp k.isLt)

/-- The gather's element: the window's, of the number. -/
theorem gather_apply (w : Line.Nums Ideal) (i : IVec S16x64x126x126x1x1 32) (b : Fin 16) (c : Fin 64) (y x' : Fin 126) (e : Fin 9)
    (h : i (ix6 b c y x' 0 0) = BitVec.ofNat 32 e.val) :
    Host.gather taker w i (ix5 b c y x' 0) = w (ix5 b c y x' e) := by
  unfold Host.gather
  congr 1
  funext a
  apply Fin.ext
  match a with
  | ⟨0, _⟩ => exact (operandIdx_batching taker _ i 0 (by decide)).trans (batchCoord_val taker _ 0 (by decide) 0 (by decide +kernel) 0 (by decide +kernel))
  | ⟨1, _⟩ => exact (operandIdx_batching taker _ i 1 (by decide)).trans (batchCoord_val taker _ 1 (by decide) 1 (by decide +kernel) 1 (by decide +kernel))
  | ⟨2, _⟩ => exact (operandIdx_batching taker _ i 2 (by decide)).trans (batchCoord_val taker _ 2 (by decide) 2 (by decide +kernel) 2 (by decide +kernel))
  | ⟨3, _⟩ => exact (operandIdx_batching taker _ i 3 (by decide)).trans (batchCoord_val taker _ 3 (by decide) 3 (by decide +kernel) 3 (by decide +kernel))
  | ⟨4, _⟩ =>
    show taker.start (ix5 b c y x' 0) i 4 + taker.batchCoord (ix5 b c y x' 0) 4 + taker.offCoord (ix5 b c y x' 0) 4 = e.val
    rw [taker.batchCoord_eq_zero _ 4 (by decide), taker.offCoord_eq_zero _ 4 fun h => ((taker.mem_sKept 4).1 h).1 (by decide), Nat.add_zero]
    unfold GatherDims.start
    rw [dif_pos (by decide), taker_siIdx, h, toInt_small]
    show min ((e.val : Int).toNat) (9 - 1) = e.val
    omega

/-- The numbers of elements are all inside. -/
theorem inside_apply (n : IVec S16x64x126x126x1 32)
    (h : ∀ (b : Fin 16) (c : Fin 64) (y x' : Fin 126), ∃ e : Fin 9, n (ix5 b c y x' 0) = BitVec.ofNat 32 e.val) (i : S16x64x126x126x1.Idx) :
    Line.inside (Line.start n) i = 1#1 := by
  unfold Line.inside
  rw [Host.reduce_eq_foldl]
  refine and_ones _ (fun i => ?_) _
  idx_vars i
  obtain ⟨e, he⟩ := h i0 i1 i2 i3
  have s := start_apply n i0 i1 i2 i3 i4 i5 e he
  pointwise
  rw [s]
  clear s he
  revert e
  decide

/-- Where a number is inside, the element picked is the gather's. -/
theorem picked_apply (w : Line.Nums Ideal) (i : IVec S16x64x126x126x1x1 32) (j : S16x64x126x126x1.Idx) (h : Line.inside i j = 1#1) :
    Line.picked w i j = Host.gather taker w i j := by
  unfold Line.picked select
  rw [h]
  rfl

/-- The element that the reference takes from a window, when every window's number is one of an element. -/
theorem taken_apply (w : Line.Nums Ideal) (n : IVec S16x64x126x126x1 32)
    (h : ∀ (b : Fin 16) (c : Fin 64) (y x' : Fin 126), ∃ e : Fin 9, n (ix5 b c y x' 0) = BitVec.ofNat 32 e.val)
    (k : Fin 1024) (y x' : Fin 126) (e : Fin 9)
    (he : n (ix5 ⟨k.val / 64, by omega⟩ ⟨k.val % 64, by omega⟩ y x' 0) = BitVec.ofNat 32 e.val) :
    Line.taken w n (ix3 k y x') = w (ix5 ⟨k.val / 64, by omega⟩ ⟨k.val % 64, by omega⟩ y x' e) := by
  have p : Line.taken w n (ix3 k y x') = Line.picked w (Line.start n) (ix5 ⟨k.val / 64, by omega⟩ ⟨k.val % 64, by omega⟩ y x' 0) := by
    have inner : ∀ (q : FVec Ideal S16x64x126x126x1 .f32) (b : Fin 16) (c : Fin 64),
        shapeCast S16x64x126x126 q shapeCasts_S16x64x126x126x1_S16x64x126x126 (ix4 b c y x') = q (ix5 b c y x' 0) := by
      intro q b c
      pointwise
    have outer : ∀ q : FVec Ideal S16x64x126x126 .f32,
        shapeCast S1024x126x126 q shapeCasts_S16x64x126x126_S1024x126x126 (ix3 k y x') = q (ix4 ⟨k.val / 64, by omega⟩ ⟨k.val % 64, by omega⟩ y x') := by
      intro q
      pointwise
    unfold Line.taken
    rw [outer, inner]
  rw [p, picked_apply w _ _ (inside_apply n h _), gather_apply w _ _ _ _ _ e (start_apply n _ _ _ _ 0 0 e he)]

/-- The kernel's result is the reference's, for arguments without +∞. -/
theorem output_eq_result (x : FVec Ideal S16x64x128x128 .f32) (hx : ∀ i, x i < ⊤) :
    Cert.KernelIdeal.Block.output x = Line.result x := by
  have r : ∀ (b : Fin 16) (c : Fin 64) (y x' : Fin 126), ∃ e : Fin 9,
      Line.choice (Line.scores (Line.uniform Line.key (constant S_ .f32 0x00000000#32) (constant S_ .f32 0x3F800000#32)) (Line.logits (Line.windows x)))
          (ix5 b c y x' 0) = BitVec.ofNat 32 e.val
        ∧ window x b c y x' e = (running (fun e => score (mass (window x b c y x')) (BitVec.ofNat 32 (place b c y x' e)) (window x b c y x' e))
            (window x b c y x') 9).2 := fun b c y x' => by
    rw [choice_apply]
    refine fold_running _ _ (exists_score (window x b c y x') (fun e => hx _) _) _ fun a => ?_
    rw [fiber_mem]
    simp only [ref_scores]
  funext j
  idx_vars j
  obtain ⟨e, he, hw⟩ := r ⟨j0.val / 64, by omega⟩ ⟨j0.val % 64, by omega⟩ j1 j2
  unfold Line.result
  rw [taken_apply _ _ (fun b c y x' => (r b c y x').imp fun e h => h.1) j0 j1 j2 e he, windows_apply, hw, output_apply]
  have c : scoreAt (window x ⟨j0.val / 64, by omega⟩ ⟨j0.val % 64, by omega⟩ j1 j2) j0 j1 j2
      = fun e => score (mass (window x ⟨j0.val / 64, by omega⟩ ⟨j0.val % 64, by omega⟩ j1 j2))
        (BitVec.ofNat 32 (place ⟨j0.val / 64, by omega⟩ ⟨j0.val % 64, by omega⟩ j1 j2 e)) (window x ⟨j0.val / 64, by omega⟩ ⟨j0.val % 64, by omega⟩ j1 j2 e) := by
    funext e
    unfold scoreAt counter place
    have q : j0.val / 64 * 64 + j0.val % 64 = j0.val := Nat.div_add_mod' _ _
    simp only [q]
  rw [c]

end Cert.Draw

end
-- ==== Proof.RefUniform.lean ====
/-
  The run of the reference's random numbers: the call's lines around the cipher's.
-/
module

public import proofs.«01_k».proof.Proof.RefParts

@[expose] public section

noncomputable section

namespace Cert.ReferenceIdeal.Line

open Cert.ReferenceIdeal Cert.ReferenceIdeal.Facts₀ Idealize.ShloMosaic Idealize.ShloMosaic.TcCoe
open Idealize.ShloMosaic.StableHlo Idealize.SL.Sem

variable {F : FTy → Type} [FloatOps F]

set_option maxHeartbeats 4000000 in
set_option maxRecDepth 100000 in
/-- The random numbers: the call's lines around the cipher's. -/
theorem uniform_line : Stretch (F := F) (fn_uniform.body (.of main_v34) (.of main_cst_4) (.of main_cst_5) main_call2)
    fun V W => (W (Proc.devRef .tc main_v35) : Nums F)
        = uniform (V (Proc.devRef .tc main_v34)) (V (Proc.devRef .tc main_cst_4)) (V (Proc.devRef .tc main_cst_5)) ∧ Keeps [main_arg0, main_v18, main_v27] V W := by
  unfold fn_uniform.body
  apply Stretch.mono
  case hp =>
    apply Stretch.front (P := fun V W => (W (Proc.devRef .tc main_call2_v5) : Word0) = key0 (V (Proc.devRef .tc main_v34)) ∧
      (W (Proc.devRef .tc main_call2_v7) : Word0) = key1 (V (Proc.devRef .tc main_v34)) ∧
      (W (Proc.devRef .tc main_call2_v30) : Words) = countHigh ∧ (W (Proc.devRef .tc main_call2_v29) : Words) = countLow ∧
      (W (Proc.devRef .tc main_call2_v2) : FVec F S1x1x1x1x1 .f32) = five (V (Proc.devRef .tc main_cst_4)) ∧
      (W (Proc.devRef .tc main_call2_v3) : FVec F S1x1x1x1x1 .f32) = five (V (Proc.devRef .tc main_cst_5)) ∧ Keeps [main_arg0, main_v18, main_v27] V W)
    case s =>
      iterate 37 apply Front.cons
      exact Front.stop _
    case b =>
      repeat' first
        | with_reducible exact nullary_bufs_sub .. | with_reducible exact unary_bufs_sub .. | with_reducible exact binary_bufs_sub ..
        | with_reducible exact ternary_bufs_sub .. | with_reducible exact quaternary_bufs_sub .. | with_reducible exact nary_bufs_sub ..
        | with_reducible exact reshape_bufs_sub .. | with_reducible exact every_nil | with_reducible apply every | with_reducible apply every_append
    case f =>
      repeat' first
        | with_reducible exact every_nil | with_reducible apply every | with_reducible apply every_append | rfl
    case h =>
      intro V
      simp only [Keeps, List.forall_mem_cons, List.not_mem_nil, false_implies, implies_true, and_true]
      repeat' apply And.intro
      all_goals after_reads_simp
      all_goals simp only [TRef.toBuf, TRef.ofBuf, cast_cast, cast_eq, id_eq, key0, key1, five, count, countLow, countHigh, every64]
      all_goals rfl
    case hk =>
      refine Stretch.bind (Q := fun V W => (W (Proc.devRef .tc main_v35) : Nums F)
        = unit ((V (Proc.devRef .tc main_call2_v31_0)), (V (Proc.devRef .tc main_call2_v31_1))) (V (Proc.devRef .tc main_call2_v2)) (V (Proc.devRef .tc main_call2_v3)) ∧ Keeps [main_arg0, main_v18, main_v27] V W) cipher_line ?_
      apply Stretch.of
      case s =>     repeat (first | exact IsSeq.last _ | exact IsSeq.nil | apply IsSeq.cons)
      case b =>
        repeat' first
          | with_reducible exact nullary_bufs_sub .. | with_reducible exact unary_bufs_sub .. | with_reducible exact binary_bufs_sub ..
          | with_reducible exact ternary_bufs_sub .. | with_reducible exact quaternary_bufs_sub .. | with_reducible exact nary_bufs_sub ..
          | with_reducible exact reshape_bufs_sub .. | with_reducible exact every_nil | with_reducible apply every | with_reducible apply every_append
      case f =>
        repeat' first
          | with_reducible exact every_nil | with_reducible apply every | with_reducible apply every_append | rfl
      case h =>
        intro V
        simp only [Keeps, List.forall_mem_cons, List.not_mem_nil, false_implies, implies_true, and_true]
        repeat' apply And.intro
        all_goals after_reads_simp
        all_goals simp only [TRef.toBuf, TRef.ofBuf, cast_cast, cast_eq, unit, spread, everyN, everyW]
  case h =>
    rintro V W ⟨V1, ⟨x1, x2, x3, x4, x5, x6, h1⟩, V2, ⟨y, h2⟩, z, h3⟩
    simp only [Keeps, List.forall_mem_cons, List.not_mem_nil, false_implies, implies_true, and_true] at h1 h2 h3 ⊢
    obtain ⟨a1, b1, c1⟩ := h1
    obtain ⟨a2, b2, c2, d2, e2⟩ := h2
    obtain ⟨a3, b3, c3⟩ := h3
    refine ⟨?_, a3.trans (a2.trans a1), b3.trans (b2.trans b1), c3.trans (c2.trans c1)⟩
    rw [z, y, d2, e2, x1, x2, x3, x4, x5, x6]
    rfl

end Cert.ReferenceIdeal.Line
-- ==== Proof.RefFirst.lean ====
/-
  The run of the reference's first part: the windows, and the number of the best element of each.
-/
module

public import proofs.«01_k».proof.Proof.RefUniform

@[expose] public section

noncomputable section

namespace Cert.ReferenceIdeal.Line

open Cert.ReferenceIdeal Cert.ReferenceIdeal.Facts₀ Idealize.ShloMosaic Idealize.ShloMosaic.TcCoe
open Idealize.ShloMosaic.StableHlo Idealize.SL.Sem

variable {F : FTy → Type} [FloatOps F]

set_option maxHeartbeats 4000000 in
set_option maxRecDepth 100000 in
/-- The first part of @main: the windows, and the number of the best element of each. -/
theorem first_line (d : Dev nD) : Stretch (F := F) (main_part0 d)
    fun V W => (W (Proc.devRef .tc main_v18) : Nums F) = windows (V (Proc.devRef .tc main_arg0)) ∧
      (W (Proc.devRef .tc main_v48) : IVec S16x64x126x126x1 32) = choice (scores
        (uniform key (constant S_ .f32 0x00000000#32) (constant S_ .f32 0x3F800000#32)) (logits (windows (V (Proc.devRef .tc main_arg0))))) ∧
      Keeps [main_arg0] V W := by
  unfold main_part0
  apply Stretch.mono
  case hp =>
    apply Stretch.front (P := fun V W => (W (Proc.devRef .tc main_v9) : FVec F S16x64x126x126x1 .f32) = elem ![0, 0, 0, 0] slices_S16x64x128x128_S16x64x126x126_0_0_0_0 (V (Proc.devRef .tc main_arg0)) ∧
      (W (Proc.devRef .tc main_v10) : FVec F S16x64x126x126x1 .f32) = elem ![0, 0, 0, 1] slices_S16x64x128x128_S16x64x126x126_0_0_0_1 (V (Proc.devRef .tc main_arg0)) ∧
      (W (Proc.devRef .tc main_v11) : FVec F S16x64x126x126x1 .f32) = elem ![0, 0, 0, 2] slices_S16x64x128x128_S16x64x126x126_0_0_0_2 (V (Proc.devRef .tc main_arg0)) ∧
      (W (Proc.devRef .tc main_v12) : FVec F S16x64x126x126x1 .f32) = elem ![0, 0, 1, 0] slices_S16x64x128x128_S16x64x126x126_0_0_1_0 (V (Proc.devRef .tc main_arg0)) ∧
      (W (Proc.devRef .tc main_v13) : FVec F S16x64x126x126x1 .f32) = elem ![0, 0, 1, 1] slices_S16x64x128x128_S16x64x126x126_0_0_1_1 (V (Proc.devRef .tc main_arg0)) ∧
      (W (Proc.devRef .tc main_v14) : FVec F S16x64x126x126x1 .f32) = elem ![0, 0, 1, 2] slices_S16x64x128x128_S16x64x126x126_0_0_1_2 (V (Proc.devRef .tc main_arg0)) ∧
      (W (Proc.devRef .tc main_v15) : FVec F S16x64x126x126x1 .f32) = elem ![0, 0, 2, 0] slices_S16x64x128x128_S16x64x126x126_0_0_2_0 (V (Proc.devRef .tc main_arg0)) ∧
      (W (Proc.devRef .tc main_v16) : FVec F S16x64x126x126x1 .f32) = elem ![0, 0, 2, 1] slices_S16x64x128x128_S16x64x126x126_0_0_2_1 (V (Proc.devRef .tc main_arg0)) ∧
      (W (Proc.devRef .tc main_v17) : FVec F S16x64x126x126x1 .f32) = elem ![0, 0, 2, 2] slices_S16x64x128x128_S16x64x126x126_0_0_2_2 (V (Proc.devRef .tc main_arg0)) ∧ Keeps [main_arg0] V W)
    case s =>
      iterate 18 apply Front.cons
      exact Front.stop _
    case b =>
      repeat' first
        | with_reducible exact nullary_bufs_sub .. | with_reducible exact unary_bufs_sub .. | with_reducible exact binary_bufs_sub ..
        | with_reducible exact ternary_bufs_sub .. | with_reducible exact quaternary_bufs_sub .. | with_reducible exact nary_bufs_sub ..
        | with_reducible exact reshape_bufs_sub .. | with_reducible exact every_nil | with_reducible apply every | with_reducible apply every_append
    case f =>
      repeat' first
        | with_reducible exact every_nil | with_reducible apply every | with_reducible apply every_append | rfl
    case h =>
      intro V
      simp only [Keeps, List.forall_mem_cons, List.not_mem_nil, false_implies, implies_true, and_true]
      repeat' apply And.intro
      all_goals after_reads_simp
      all_goals simp only [TRef.toBuf, TRef.ofBuf, cast_cast, cast_eq, id_eq, elem]
    case hk =>
      apply Stretch.front (P := fun V W => (W (Proc.devRef .tc main_v18) : Nums F) = joined (V (Proc.devRef .tc main_v9)) (V (Proc.devRef .tc main_v10)) (V (Proc.devRef .tc main_v11)) (V (Proc.devRef .tc main_v12)) (V (Proc.devRef .tc main_v13)) (V (Proc.devRef .tc main_v14)) (V (Proc.devRef .tc main_v15)) (V (Proc.devRef .tc main_v16)) (V (Proc.devRef .tc main_v17)) ∧
        Keeps [main_arg0] V W)
      case s =>
        apply Front.cons
        exact Front.stop _
      case b =>
        repeat' first
          | with_reducible exact nullary_bufs_sub .. | with_reducible exact unary_bufs_sub .. | with_reducible exact binary_bufs_sub ..
          | with_reducible exact ternary_bufs_sub .. | with_reducible exact quaternary_bufs_sub .. | with_reducible exact nary_bufs_sub ..
          | with_reducible exact reshape_bufs_sub .. | with_reducible exact every_nil | with_reducible apply every | with_reducible apply every_append
      case f =>
        repeat' first
          | with_reducible exact every_nil | with_reducible apply every | with_reducible apply every_append | rfl
      case h =>
        intro V
        simp only [Keeps, List.forall_mem_cons, List.not_mem_nil, false_implies, implies_true, and_true]
        repeat' apply And.intro
        all_goals after_reads_simp
        all_goals simp only [TRef.toBuf, TRef.ofBuf, cast_cast, cast_eq, id_eq, joined]
        all_goals rfl
      case hk =>
        apply Stretch.front (P := fun V W => (W (Proc.devRef .tc main_v27) : Nums F) = logits (V (Proc.devRef .tc main_v18)) ∧
          (W (Proc.devRef .tc main_v34) : IVec S2 32) = key ∧
          (W (Proc.devRef .tc main_cst_4) : FVec F S_ .f32) = constant S_ .f32 0x00000000#32 ∧
          (W (Proc.devRef .tc main_cst_5) : FVec F S_ .f32) = constant S_ .f32 0x3F800000#32 ∧ Keeps [main_arg0, main_v18] V W)
        case s =>
          apply Front.call
          · unfold fn_relu.body; repeat (first | exact IsSeq.last _ | exact IsSeq.nil | apply IsSeq.cons)
          iterate 9 apply Front.cons
          apply Front.call
          · unfold fn_where.body; repeat (first | exact IsSeq.last _ | exact IsSeq.nil | apply IsSeq.cons)
          iterate 13 apply Front.cons
          exact Front.stop _
        case b =>
          repeat' first
            | with_reducible exact nullary_bufs_sub .. | with_reducible exact unary_bufs_sub .. | with_reducible exact binary_bufs_sub ..
            | with_reducible exact ternary_bufs_sub .. | with_reducible exact quaternary_bufs_sub .. | with_reducible exact nary_bufs_sub ..
            | with_reducible exact reshape_bufs_sub .. | with_reducible exact every_nil | with_reducible apply every | with_reducible apply every_append
        case f =>
          repeat' first
            | with_reducible exact every_nil | with_reducible apply every | with_reducible apply every_append | rfl
        case h =>
          intro V
          simp only [Keeps, List.forall_mem_cons, List.not_mem_nil, false_implies, implies_true, and_true]
          repeat' apply And.intro
          all_goals after_reads_simp [pair_eq]
          all_goals simp only [TRef.toBuf, TRef.ofBuf, cast_cast, cast_eq, id_eq, logits, total, everyN, key]
        case hk =>
          refine Stretch.bind (Q := fun V W => (W (Proc.devRef .tc main_v48) : IVec S16x64x126x126x1 32)
            = choice (scores (V (Proc.devRef .tc main_v35)) (V (Proc.devRef .tc main_v27))) ∧ Keeps [main_arg0, main_v18] V W) uniform_line ?_
          apply Stretch.of
          case s =>
            iterate 14 apply IsSeq.cons
            apply IsSeq.append
            · unfold fn_argmax.body; repeat (first | exact IsSeq.last _ | exact IsSeq.nil | apply IsSeq.cons)
            · repeat (first | exact IsSeq.last _ | exact IsSeq.nil | apply IsSeq.cons)
          case b =>
            repeat' first
              | with_reducible exact nullary_bufs_sub .. | with_reducible exact unary_bufs_sub .. | with_reducible exact binary_bufs_sub ..
              | with_reducible exact ternary_bufs_sub .. | with_reducible exact quaternary_bufs_sub .. | with_reducible exact nary_bufs_sub ..
              | with_reducible exact reshape_bufs_sub .. | with_reducible exact every_nil | with_reducible apply every | with_reducible apply every_append
          case f =>
            repeat' first
              | with_reducible exact every_nil | with_reducible apply every | with_reducible apply every_append | rfl
          case h =>
            intro V
            simp only [Keeps, List.forall_mem_cons, List.not_mem_nil, false_implies, implies_true, and_true]
            repeat' apply And.intro
            all_goals after_reads_simp
            all_goals simp only [TRef.toBuf, TRef.ofBuf, cast_cast, cast_eq, id_eq, choice, scores, everyN]
  case h =>
    rintro V W ⟨V1, ⟨x0, x1, x2, x3, x4, x5, x6, x7, x8, h1⟩, V2, ⟨w, h2⟩, V3, ⟨l, k, k0, k1, h3⟩, V4, ⟨y, h4⟩, z, h5⟩
    simp only [Keeps, List.forall_mem_cons, List.not_mem_nil, false_implies, implies_true, and_true] at h1 h2 h3 h4 h5 ⊢
    obtain ⟨a3, b3⟩ := h3
    obtain ⟨a4, b4, c4⟩ := h4
    obtain ⟨a5, b5⟩ := h5
    have e : (V2 (Proc.devRef .tc main_v18) : Nums F) = windows (V (Proc.devRef .tc main_arg0)) := by
      rw [w, x0, x1, x2, x3, x4, x5, x6, x7, x8]; rfl
    refine ⟨?_, ?_, a5.trans (a4.trans (a3.trans (h2.trans h1)))⟩
    · rw [b5, b4, b3, e]
    · rw [z, y, c4, l, k, k0, k1, e]

end Cert.ReferenceIdeal.Line
-- ==== Proof.RefTake.lean ====
/-
  The run of the reference's last part: the elements chosen.
-/
module

public import proofs.«01_k».proof.Proof.RefParts

@[expose] public section

noncomputable section

namespace Cert.ReferenceIdeal.Line

open Cert.ReferenceIdeal Cert.ReferenceIdeal.Facts₀ Idealize.ShloMosaic Idealize.ShloMosaic.TcCoe
open Idealize.ShloMosaic.StableHlo Idealize.SL.Sem

variable {F : FTy → Type} [FloatOps F]

set_option maxHeartbeats 4000000 in
set_option maxRecDepth 100000 in
/-- The call that takes the elements chosen. -/
theorem picked_line : Stretch (F := F) (fn_take_along_axis.body (.of main_v18) (.of main_v48) main_call4)
    fun V W => (W (Proc.devRef .tc main_v49) : FVec F S16x64x126x126x1 .f32)
      = picked (V (Proc.devRef .tc main_v18)) (start (V (Proc.devRef .tc main_v48))) ∧ Keeps [main_arg0] V W := by
  unfold fn_take_along_axis.body
  apply Stretch.mono
  case hp =>
    apply Stretch.front (P := fun V W => (W (Proc.devRef .tc main_call4_v5) : IVec S16x64x126x126x1x1 32) = start (V (Proc.devRef .tc main_v48)) ∧
      Keeps [main_arg0, main_v18] V W)
    case s =>
      iterate 8 apply Front.cons
      exact Front.stop _
    case b =>
      repeat' first
        | with_reducible exact nullary_bufs_sub .. | with_reducible exact unary_bufs_sub .. | with_reducible exact binary_bufs_sub ..
        | with_reducible exact ternary_bufs_sub .. | with_reducible exact quaternary_bufs_sub .. | with_reducible exact nary_bufs_sub ..
        | with_reducible exact reshape_bufs_sub .. | with_reducible exact every_nil | with_reducible apply every | with_reducible apply every_append
    case f =>
      repeat' first
        | with_reducible exact every_nil | with_reducible apply every | with_reducible apply every_append | rfl
    case h =>
      intro V
      simp only [Keeps, List.forall_mem_cons, List.not_mem_nil, false_implies, implies_true, and_true]
      repeat' apply And.intro
      all_goals after_reads_simp
      all_goals simp only [TRef.toBuf, TRef.ofBuf, cast_cast, cast_eq, id_eq, start]
      all_goals rfl
    case hk =>
      apply Stretch.front (P := fun V W => (W (Proc.devRef .tc main_call4_v12) : IVec S16x64x126x126x1 1)
        = inside (V (Proc.devRef .tc main_call4_v5)) ∧ Keeps [main_arg0, main_v18, main_call4_v5] V W)
      case s =>
        iterate 10 apply Front.cons
        exact Front.stop _
      case b =>
        repeat' first
          | with_reducible exact nullary_bufs_sub .. | with_reducible exact unary_bufs_sub .. | with_reducible exact binary_bufs_sub ..
          | with_reducible exact ternary_bufs_sub .. | with_reducible exact every_nil | with_reducible apply every
      case f =>
        repeat' first
          | with_reducible exact every_nil | with_reducible apply every | rfl
      case h =>
        intro V
        simp only [Keeps, List.forall_mem_cons, List.not_mem_nil, false_implies, implies_true, and_true]
        repeat' apply And.intro
        all_goals after_reads_simp
        all_goals simp only [TRef.toBuf, TRef.ofBuf, cast_cast, cast_eq, inside]
      case hk =>
        apply Stretch.of (P := fun V W => (W (Proc.devRef .tc main_v49) : FVec F S16x64x126x126x1 .f32)
          = select (V (Proc.devRef .tc main_call4_v12) : IVec S16x64x126x126x1 1)
            (Host.gather gather_S16x64x126x126x9_S16x64x126x126x1x1_S16x64x126x126x1_n_4_0123_0123_4_5_11111
              (V (Proc.devRef .tc main_v18) : Nums F) (V (Proc.devRef .tc main_call4_v5) : IVec S16x64x126x126x1x1 32))
            (broadcastInDim S16x64x126x126x1 ![] bcast_S_S16x64x126x126x1 (constant S_ .f32 0x7FC00000#32))
          ∧ Keeps [main_arg0] V W)
        case s =>
          repeat (first | exact IsSeq.last _ | exact IsSeq.nil | apply IsSeq.cons)
        case b =>
          repeat' first
            | with_reducible exact nullary_bufs_sub .. | with_reducible exact unary_bufs_sub .. | with_reducible exact binary_bufs_sub ..
            | with_reducible exact ternary_bufs_sub .. | with_reducible exact every_nil | with_reducible apply every
        case f =>
          repeat' first
            | with_reducible exact every_nil | with_reducible apply every | rfl
        case h =>
          intro V
          simp only [Keeps, List.forall_mem_cons, List.not_mem_nil, false_implies, implies_true, and_true]
          repeat' apply And.intro
          all_goals after_reads_simp
          all_goals simp only [TRef.toBuf, TRef.ofBuf, cast_cast, cast_eq]
  case h =>
    rintro V W ⟨V1, ⟨x, h1⟩, V2, ⟨y, h2⟩, z, h3⟩
    simp only [Keeps, List.forall_mem_cons, List.not_mem_nil, false_implies, implies_true, and_true] at h1 h2 h3 ⊢
    obtain ⟨a1, b1⟩ := h1
    obtain ⟨a2, b2, c2⟩ := h2
    exact ⟨by rw [z, y, b2, c2, x, b1, picked], h3.trans (a2.trans a1)⟩

set_option maxHeartbeats 4000000 in
set_option maxRecDepth 100000 in
/-- The second part of @main: the elements chosen. -/
theorem second_line (d : Dev nD) : Stretch (F := F) (main_part1 d)
    fun V W => (W (Proc.devRef .tc main_v51) : FVec F S1024x126x126 .f32) = taken (V (Proc.devRef .tc main_v18)) (V (Proc.devRef .tc main_v48)) ∧
      Keeps [main_arg0] V W := by
  unfold main_part1
  apply Stretch.mono
  case hp =>
    refine Stretch.bind (Q := fun V W => (W (Proc.devRef .tc main_v51) : FVec F S1024x126x126 .f32)
      = shapeCast S1024x126x126 (shapeCast S16x64x126x126 (V (Proc.devRef .tc main_v49) : FVec F S16x64x126x126x1 .f32)
        shapeCasts_S16x64x126x126x1_S16x64x126x126) shapeCasts_S16x64x126x126_S1024x126x126 ∧ Keeps [main_arg0] V W) picked_line ?_
    apply Stretch.of
    case s =>
      repeat (first | exact IsSeq.last _ | exact IsSeq.nil | apply IsSeq.cons)
    case b =>
      repeat' first
        | with_reducible exact nullary_bufs_sub .. | with_reducible exact unary_bufs_sub .. | with_reducible exact binary_bufs_sub ..
        | with_reducible exact ternary_bufs_sub .. | with_reducible exact quaternary_bufs_sub .. | with_reducible exact nary_bufs_sub ..
        | with_reducible exact reshape_bufs_sub .. | with_reducible exact every_nil | with_reducible apply every | with_reducible apply every_append
    case f =>
      repeat' first
        | with_reducible exact every_nil | with_reducible apply every | with_reducible apply every_append | rfl
    case h =>
      intro V
      simp only [Keeps, List.forall_mem_cons, List.not_mem_nil, false_implies, implies_true, and_true]
      repeat' apply And.intro
      all_goals after_reads_simp
      all_goals rfl
  case h =>
    rintro V W ⟨V1, ⟨x, h1⟩, y, h2⟩
    simp only [Keeps, List.forall_mem_cons, List.not_mem_nil, false_implies, implies_true, and_true] at h1 h2 ⊢
    exact ⟨by rw [y, x]; rfl, h2.trans h1⟩

end Cert.ReferenceIdeal.Line
-- ==== Proof.RefMain.lean ====
/-
  The run of the whole reference: what it leaves in its result's buffer.
-/
module

public import proofs.«01_k».proof.Proof.RefFirst
public import proofs.«01_k».proof.Proof.RefTake

@[expose] public section

noncomputable section

namespace Cert.ReferenceIdeal.Line

open Cert.ReferenceIdeal Cert.ReferenceIdeal.Facts₀ Idealize.ShloMosaic Idealize.ShloMosaic.TcCoe
open Idealize.ShloMosaic.StableHlo Idealize.SL.Sem

variable {F : FTy → Type} [FloatOps F]

/-- The whole of @main leaves `result` of its argument, and the argument alone. -/
theorem main_line (d : Dev nD) : Stretch (F := F) (main d)
    fun V W => (W (Proc.devRef .tc main_v51) : FVec F S1024x126x126 .f32) = result (V (Proc.devRef .tc main_arg0)) ∧
      W (Proc.devRef .tc main_arg0) = V (Proc.devRef .tc main_arg0) := by
  refine (Stretch.bind (first_line d) (second_line d)).mono ?_
  rintro V W ⟨V1, ⟨x1, x2, h1⟩, y, h2⟩
  simp only [Keeps, List.forall_mem_cons, List.not_mem_nil, false_implies, implies_true, and_true] at h1 h2
  exact ⟨by rw [y, x1, x2]; rfl, h2.trans h1⟩

/-- Every run of the reference leaves `result` of its argument in the result's buffer, and the argument unchanged. -/
theorem run (m : (ℓ : Loc nD τ sig) → Buf (Elt F) ℓ) (ρ : Dev nD → PrngReg) :
    θ_run defs (onTc (τ := τ) main) ⟨m, fun _ => 0, ρ⟩ fun r =>
      ∀ d : Dev nD, (r.2.mem ((d.tc : Thread nD τ).loc main_v51) : FVec F S1024x126x126 .f32)
          = result (m ((d.tc : Thread nD τ).loc main_arg0)) ∧
        r.2.mem ((d.tc : Thread nD τ).loc main_arg0) = m ((d.tc : Thread nD τ).loc main_arg0) := by
  obtain ⟨ops, s, b, f, h⟩ := main_line (F := F) 0
  refine θ_run_mono (run_hlo defs main (ops := ops) (fun d => ?_) (by decide) (by decide) b
    (List.forall_iff_forall_mem.mp f) m ρ) fun r hr d => ?_
  · obtain rfl : d = 0 := Subsingleton.elim _ _
    exact s
  · obtain ⟨h1, h2⟩ := h (launchContents m d)
    rw [hr d main_v51, hr d main_arg0]
    exact ⟨h1, h2⟩

end Cert.ReferenceIdeal.Line
-- ==== Proof.Claims.lean ====
/-
  The claims: the frames of the three programs, and that the kernel and the reference end with one result.
-/
module

public import proofs.«01_k».proof.Defs
public import proofs.«01_k».proof.Proof.Reference
public import proofs.«01_k».proof.Proof.RefMain
public import proofs.«01_k».proof.Proof.Gen.Kernel.Frame
public import proofs.«01_k».proof.Proof.Gen.ReferenceIdeal

@[expose] public section

noncomputable section

namespace Cert.Draw

open Idealize.ShloMosaic Idealize.SL.Sem

/-- The side conditions of the precondition's function. -/
theorem preFacts : Cert.Pre_no_infinite_element.Facts where
  bcast_S_S16x64x128x128 := by decide
  reducesTo_S16x64x128x128_S_d0_1_2_3 := by decide
  h_S_ := by decide

/-- If an and from one gives one, every bit is one. -/
theorem ones_of_and {s : Shape} (x : s.Idx → BitVec 1) : ∀ (l : List s.Idx) (a : BitVec 1),
    l.foldl (fun r i => IntOp.andi r (x i)) a = 1#1 → a = 1#1 ∧ ∀ i ∈ l, x i = 1#1
  | [], a, h => ⟨h, fun i hi => absurd hi List.not_mem_nil⟩
  | i :: l, a, h => by
    rw [List.foldl_cons] at h
    obtain ⟨h1, h2⟩ := ones_of_and x l _ h
    have both : ∀ p q : BitVec 1, IntOp.andi p q = 1#1 → p = 1#1 ∧ q = 1#1 := by decide
    obtain ⟨ha, hi⟩ := both _ _ h1
    refine ⟨ha, fun i' hi' => ?_⟩
    rcases List.mem_cons.mp hi' with rfl | h'
    · exact hi
    · exact h2 i' h'

/-- The precondition: no element is +∞. -/
theorem below_top [h : Cert.Pre_no_infinite_element.Facts] (x : FVec Ideal Cert.Pre_no_infinite_element.S16x64x128x128 .f32)
    (hx : Cert.Pre_no_infinite_element.fn (F := Ideal) x = fun _ => 1#1) (i : Cert.Pre_no_infinite_element.S16x64x128x128.Idx) : x i < ⊤ := by
  have e := congrFun hx (fun a => a.elim0)
  unfold Cert.Pre_no_infinite_element.fn at e
  dsimp only at e
  rw [Host.reduce_eq_foldl] at e
  have o := (ones_of_and _ _ _ e).2 i (List.mem_filter.mpr ⟨List.mem_map.mpr
    ⟨Cert.Pre_no_infinite_element.S16x64x128x128.rowMajor i, List.mem_finRange _, Equiv.symm_apply_apply _ _⟩,
    decide_eq_true (funext fun a => a.elim0)⟩)
  have t : Ideal.ofBits .f32 0x7F800000#32 = ⊤ := by simp [Ideal.ofBits, Ideal.ieee]
  have c : Ideal.cmp .olt (x i) (Ideal.ofBits .f32 0x7F800000#32) = 1#1 := o
  rw [t] at c
  by_contra hn
  simp [Ideal.cmp, hn] at c

/-- The frame of the kernel. -/
theorem frameKernel : Cert.quiescent_Kernel (hKernel := Cert.Kernel.Gen.facts) := fun m g _ => Cert.Kernel.Gen.frame m g

/-- The frame of the kernel over the extended reals. -/
theorem frameIdeal : Cert.quiescent_KernelIdeal (hKernelIdeal := Cert.KernelIdeal.Gen.facts) := fun m g _ => Cert.KernelIdeal.Gen.frame m g

/-- The frame of the reference. -/
theorem frameReference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Line.run m g)

/-- The kernel and the reference, from one argument without +∞, end with one result. -/
theorem equal : Cert.algebraic_KernelIdeal_ReferenceIdeal_pre_no_infinite_element (hKernelIdeal := Cert.KernelIdeal.Gen.facts)
    (hReferenceIdeal := Cert.ReferenceIdeal.Gen.facts) (hPre_no_infinite_element := preFacts) := by
  intro m g m' g' hp ha
  have hr := Cert.ReferenceIdeal.Line.run m' g'
  refine ⟨_, Cert.KernelIdeal.Block.run m g, (θ_run _ _ _).mono (fun r h c => ⟨(h c).1.trans ?_, (h c).2⟩) hr⟩
  rw [ha c]
  exact (output_eq_result _ (below_top (h := preFacts) _ (hp c))).symm

end Cert.Draw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Claims
public import Idealize.ShloMosaic.Adequacy
public import Idealize.ShloMosaic.Init

@[expose] public section

noncomputable section

namespace Cert.Proof

open Cert.Draw

/-- Everything claimed holds. -/
theorem claim : Cert.Claim :=
  ⟨Cert.Kernel.Gen.facts, Cert.KernelIdeal.Gen.facts, Cert.ReferenceIdeal.Gen.facts, preFacts,
    frameKernel, frameIdeal, fun m g _ => frameIdeal m g trivial, frameReference, fun m g _ => frameReference m g trivial, trivial, equal⟩

end Cert.Proof

end
